-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S8192x4096 : Shape := ⟨2, ![8192, 4096]⟩
abbrev S3x128x2048 : Shape := ⟨3, ![3, 128, 2048]⟩
abbrev S512x2048 : Shape := ⟨2, ![512, 2048]⟩
abbrev S3 : Shape := ⟨1, ![3]⟩
abbrev S_ : Shape := ⟨0, ![]⟩
abbrev S512x512 : Shape := ⟨2, ![512, 512]⟩
abbrev S128x2048 : Shape := ⟨2, ![128, 2048]⟩
abbrev S1x128x2048 : Shape := ⟨3, ![1, 128, 2048]⟩
abbrev S1 : Shape := ⟨1, ![1]⟩

abbrev nBuf : Space → Nat
  | .hbm => 3
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .f32⟩
  | .local _ .vmem, ⟨0, _⟩ => ⟨S8192x512, .bf16⟩
  | .local _ .vmem, ⟨1, _⟩ => ⟨S512x4096, .bf16⟩
  | .local _ .vmem, ⟨2, _⟩ => ⟨S3x128x2048, .bf16⟩
  | .local _ .vmem, ⟨3, _⟩ => ⟨S3x128x2048, .bf16⟩
  | .local _ .vmem, ⟨4, _⟩ => ⟨S3x128x2048, .bf16⟩
  | .local _ .vmem, ⟨5, _⟩ => ⟨S3x128x2048, .bf16⟩
  | .local _ .vmem, ⟨6, _⟩ => ⟨S3x128x2048, .bf16⟩
  | .local _ .vmem, ⟨7, _⟩ => ⟨S3x128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S512x2048, .f32⟩
  | .local _ .vmem, ⟨11, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 9 52 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_82 : BitVec 32 := 1#32
  let v96 : BitVec 32 := Scalar.muli v62 c1_i32_82
  let v97 : BitVec 32 := Scalar.addi c0_i32_83 v96
  v97.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c512_i32 : BitVec 32 := 512#32
  let v98 : BitVec 32 := Scalar.muli v32 c512_i32
  let v99 : Index := Scalar.indexCast v98
  let c0 : Index := 0#32
  ![v99.toNat, 0]
def k0_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_116 : BitVec 32 := 1#32
  let v146 : BitVec 32 := Scalar.muli v92 c1_i32_116
  let v147 : BitVec 32 := Scalar.addi c0_i32_117 v146
  v147.toNat
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_119 : BitVec 32 := 1#32
  let v148 : BitVec 32 := Scalar.muli v92 c1_i32_119
  let v149 : BitVec 32 := Scalar.addi c0_i32_120 v148
  v149.toNat
def k0_dev5 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_122 : BitVec 32 := 1#32
  let v150 : BitVec 32 := Scalar.muli v92 c1_i32_122
  let v151 : BitVec 32 := Scalar.addi c0_i32_123 v150
  v151.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_125 : BitVec 32 := 1#32
  let v152 : BitVec 32 := Scalar.muli v92 c1_i32_125
  let v153 : BitVec 32 := Scalar.addi c0_i32_126 v152
  v153.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_128 : BitVec 32 := 1#32
  let v154 : BitVec 32 := Scalar.muli v62 c1_i32_128
  let v155 : BitVec 32 := Scalar.addi c0_i32_129 v154
  v155.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_131 : BitVec 32 := 1#32
  let v156 : BitVec 32 := Scalar.muli v62 c1_i32_131
  let v157 : BitVec 32 := Scalar.addi c0_i32_132 v156
  v157.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_134 : BitVec 32 := 1#32
  let v158 : BitVec 32 := Scalar.muli v62 c1_i32_134
  let v159 : BitVec 32 := Scalar.addi c0_i32_135 v158
  v159.toNat
def k0_dev10 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_137 : BitVec 32 := 1#32
  let v160 : BitVec 32 := Scalar.muli v62 c1_i32_137
  let v161 : BitVec 32 := Scalar.addi c0_i32_138 v160
  v161.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_140 : BitVec 32 := 1#32
  let v162 : BitVec 32 := Scalar.muli v92 c1_i32_140
  let v163 : BitVec 32 := Scalar.addi c0_i32_141 v162
  v163.toNat
def k0_dev12 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_143 : BitVec 32 := 1#32
  let v164 : BitVec 32 := Scalar.muli v92 c1_i32_143
  let v165 : BitVec 32 := Scalar.addi c0_i32_144 v164
  v165.toNat
def k0_dev13 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_146 : BitVec 32 := 1#32
  let v166 : BitVec 32 := Scalar.muli v92 c1_i32_146
  let v167 : BitVec 32 := Scalar.addi c0_i32_147 v166
  v167.toNat
def k0_dev14 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_149 : BitVec 32 := 1#32
  let v168 : BitVec 32 := Scalar.muli v92 c1_i32_149
  let v169 : BitVec 32 := Scalar.addi c0_i32_150 v168
  v169.toNat
def k0_dev15 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_152 : BitVec 32 := 1#32
  let v170 : BitVec 32 := Scalar.muli v62 c1_i32_152
  let v171 : BitVec 32 := Scalar.addi c0_i32_153 v170
  v171.toNat
def k0_dev16 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_155 : BitVec 32 := 1#32
  let v172 : BitVec 32 := Scalar.muli v62 c1_i32_155
  let v173 : BitVec 32 := Scalar.addi c0_i32_156 v172
  v173.toNat
def k0_dev17 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_158 : BitVec 32 := 1#32
  let v174 : BitVec 32 := Scalar.muli v62 c1_i32_158
  let v175 : BitVec 32 := Scalar.addi c0_i32_159 v174
  v175.toNat
def k0_dev18 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_161 : BitVec 32 := 1#32
  let v176 : BitVec 32 := Scalar.muli v62 c1_i32_161
  let v177 : BitVec 32 := Scalar.addi c0_i32_162 v176
  v177.toNat
def k0_dev19 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_171 : BitVec 32 := 1#32
  let v178 : BitVec 32 := Scalar.muli v62 c1_i32_171
  let v179 : BitVec 32 := Scalar.addi c0_i32_172 v178
  v179.toNat
def k0_dev20 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_181 : BitVec 32 := 1#32
  let v188 : BitVec 32 := Scalar.muli v92 c1_i32_181
  let v189 : BitVec 32 := Scalar.addi c0_i32_182 v188
  v189.toNat
def k0_dev21 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_195 : BitVec 32 := 1#32
  let v198 : BitVec 32 := Scalar.muli v62 c1_i32_195
  let v199 : BitVec 32 := Scalar.addi c0_i32_196 v198
  v199.toNat
def k0_dev22 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_205 : BitVec 32 := 1#32
  let v208 : BitVec 32 := Scalar.muli v92 c1_i32_205
  let v209 : BitVec 32 := Scalar.addi c0_i32_206 v208
  v209.toNat
def k0_dev23 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_219 : BitVec 32 := 1#32
  let v218 : BitVec 32 := Scalar.muli v62 c1_i32_219
  let v219 : BitVec 32 := Scalar.addi c0_i32_220 v218
  v219.toNat
def k0_dev24 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_229 : BitVec 32 := 1#32
  let v228 : BitVec 32 := Scalar.muli v92 c1_i32_229
  let v229 : BitVec 32 := Scalar.addi c0_i32_230 v228
  v229.toNat
def k0_dev25 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_243 : BitVec 32 := 1#32
  let v238 : BitVec 32 := Scalar.muli v62 c1_i32_243
  let v239 : BitVec 32 := Scalar.addi c0_i32_244 v238
  v239.toNat
def k0_dev26 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_253 : BitVec 32 := 1#32
  let v248 : BitVec 32 := Scalar.muli v92 c1_i32_253
  let v249 : BitVec 32 := Scalar.addi c0_i32_254 v248
  v249.toNat
@[reducible] def k0_t1_loop : Scf.Loop 32 :=
  let c0_i32_259 : BitVec 32 := 0#32
  let c4_i32_260 : BitVec 32 := 4#32
  let v258 : BitVec 32 := Scalar.addi c0_i32_259 c4_i32_260
  let c1_i32_261 : BitVec 32 := 1#32
  ⟨c0_i32_259, v258, c1_i32_261⟩
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_259 : BitVec 32 := 0#32
  let c1_i32_261 : BitVec 32 := 1#32
  let arg39 : BitVec 32 := Scf.iv c0_i32_259 c1_i32_261 k0_t1
  let v2285 : BitVec 32 := Scalar.muli c3_i32_2276 arg39
  let v2286 : BitVec 32 := Scalar.subi v32 v2285
  let c1_i32_2277 : BitVec 32 := 1#32
  let v2287 : BitVec 32 := Scalar.subi v2286 c1_i32_2277
  let c16_i32_2278 : BitVec 32 := 16#32
  let v2288 : BitVec 32 := Scalar.addi v2287 c16_i32_2278
  let c16_i32_2279 : BitVec 32 := 16#32
  let v2289 : BitVec 32 := Scalar.remsi v2288 c16_i32_2279
  let c512_i32_2282 : BitVec 32 := 512#32
  let v2293 : BitVec 32 := Scalar.muli v2289 c512_i32_2282
  let v2294 : Index := Scalar.indexCast v2293
  let c0_2283 : Index := 0#32
  ![v2294.toNat, 0]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_259 : BitVec 32 := 0#32
  let c1_i32_261 : BitVec 32 := 1#32
  let arg39 : BitVec 32 := Scf.iv c0_i32_259 c1_i32_261 k0_t1
  let v2285 : BitVec 32 := Scalar.muli c3_i32_2276 arg39
  let v2290 : BitVec 32 := Scalar.addi v32 v2285
  let c1_i32_2280 : BitVec 32 := 1#32
  let v2291 : BitVec 32 := Scalar.addi v2290 c1_i32_2280
  let c16_i32_2281 : BitVec 32 := 16#32
  let v2292 : BitVec 32 := Scalar.remsi v2291 c16_i32_2281
  let c512_i32_2287 : BitVec 32 := 512#32
  let v2301 : BitVec 32 := Scalar.muli v2292 c512_i32_2287
  let v2302 : Index := Scalar.indexCast v2301
  let c0_2288 : Index := 0#32
  ![v2302.toNat, 0]
def k0_dev27 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2331 : BitVec 32 := 1#32
  let v2337 : BitVec 32 := Scalar.muli v92 c1_i32_2331
  let v2338 : BitVec 32 := Scalar.addi c0_i32_2332 v2337
  v2338.toNat
def k0_dev28 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2334 : BitVec 32 := 1#32
  let v2339 : BitVec 32 := Scalar.muli v62 c1_i32_2334
  let v2340 : BitVec 32 := Scalar.addi c0_i32_2335 v2339
  v2340.toNat
def k0_dev29 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2356 : BitVec 32 := 1#32
  let v2355 : BitVec 32 := Scalar.muli v62 c1_i32_2356
  let v2356 : BitVec 32 := Scalar.addi c0_i32_2357 v2355
  v2356.toNat
def k0_dev30 (d0 : Dev nD) : Nat :=
  let c0_i32_2367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2366 : BitVec 32 := 1#32
  let v2365 : BitVec 32 := Scalar.muli v92 c1_i32_2366
  let v2366 : BitVec 32 := Scalar.addi c0_i32_2367 v2365
  v2366.toNat
def k0_dev31 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2411 : BitVec 32 := 1#32
  let v2403 : BitVec 32 := Scalar.muli v92 c1_i32_2411
  let v2404 : BitVec 32 := Scalar.addi c0_i32_2412 v2403
  v2404.toNat
def k0_dev32 (d0 : Dev nD) : Nat :=
  let c0_i32_2415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2414 : BitVec 32 := 1#32
  let v2405 : BitVec 32 := Scalar.muli v62 c1_i32_2414
  let v2406 : BitVec 32 := Scalar.addi c0_i32_2415 v2405
  v2406.toNat
def k0_dev33 (d0 : Dev nD) : Nat :=
  let c0_i32_2437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2436 : BitVec 32 := 1#32
  let v2421 : BitVec 32 := Scalar.muli v62 c1_i32_2436
  let v2422 : BitVec 32 := Scalar.addi c0_i32_2437 v2421
  v2422.toNat
def k0_dev34 (d0 : Dev nD) : Nat :=
  let c0_i32_2447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2446 : BitVec 32 := 1#32
  let v2431 : BitVec 32 := Scalar.muli v92 c1_i32_2446
  let v2432 : BitVec 32 := Scalar.addi c0_i32_2447 v2431
  v2432.toNat
def k0_dev35 (d0 : Dev nD) : Nat :=
  let c0_i32_2492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2491 : BitVec 32 := 1#32
  let v2469 : BitVec 32 := Scalar.muli v92 c1_i32_2491
  let v2470 : BitVec 32 := Scalar.addi c0_i32_2492 v2469
  v2470.toNat
def k0_dev36 (d0 : Dev nD) : Nat :=
  let c0_i32_2495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2494 : BitVec 32 := 1#32
  let v2471 : BitVec 32 := Scalar.muli v62 c1_i32_2494
  let v2472 : BitVec 32 := Scalar.addi c0_i32_2495 v2471
  v2472.toNat
def k0_dev37 (d0 : Dev nD) : Nat :=
  let c0_i32_2517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2516 : BitVec 32 := 1#32
  let v2487 : BitVec 32 := Scalar.muli v62 c1_i32_2516
  let v2488 : BitVec 32 := Scalar.addi c0_i32_2517 v2487
  v2488.toNat
def k0_dev38 (d0 : Dev nD) : Nat :=
  let c0_i32_2527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2526 : BitVec 32 := 1#32
  let v2497 : BitVec 32 := Scalar.muli v92 c1_i32_2526
  let v2498 : BitVec 32 := Scalar.addi c0_i32_2527 v2497
  v2498.toNat
def k0_dev39 (d0 : Dev nD) : Nat :=
  let c0_i32_2572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2571 : BitVec 32 := 1#32
  let v2535 : BitVec 32 := Scalar.muli v92 c1_i32_2571
  let v2536 : BitVec 32 := Scalar.addi c0_i32_2572 v2535
  v2536.toNat
def k0_dev40 (d0 : Dev nD) : Nat :=
  let c0_i32_2575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2574 : BitVec 32 := 1#32
  let v2537 : BitVec 32 := Scalar.muli v62 c1_i32_2574
  let v2538 : BitVec 32 := Scalar.addi c0_i32_2575 v2537
  v2538.toNat
def k0_dev41 (d0 : Dev nD) : Nat :=
  let c0_i32_2597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2596 : BitVec 32 := 1#32
  let v2553 : BitVec 32 := Scalar.muli v62 c1_i32_2596
  let v2554 : BitVec 32 := Scalar.addi c0_i32_2597 v2553
  v2554.toNat
def k0_dev42 (d0 : Dev nD) : Nat :=
  let c0_i32_2607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2606 : BitVec 32 := 1#32
  let v2563 : BitVec 32 := Scalar.muli v92 c1_i32_2606
  let v2564 : BitVec 32 := Scalar.addi c0_i32_2607 v2563
  v2564.toNat
def k0_off4 (d0 : Dev nD) (k0_t1 : Fin k0_t1_loop.trips) (c1_i32_2612 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_259 : BitVec 32 := 0#32
  let c1_i32_261 : BitVec 32 := 1#32
  let arg39 : BitVec 32 := Scf.iv c0_i32_259 c1_i32_261 k0_t1
  let v2285 : BitVec 32 := Scalar.muli c3_i32_2276 arg39
  let v2573 : BitVec 32 := Scalar.addi v2285 c1_i32_2612
  let v2574 : BitVec 32 := Scalar.subi v32 v2573
  let c1_i32_2613 : BitVec 32 := 1#32
  let v2575 : BitVec 32 := Scalar.subi v2574 c1_i32_2613
  let c16_i32_2614 : BitVec 32 := 16#32
  let v2576 : BitVec 32 := Scalar.addi v2575 c16_i32_2614
  let c16_i32_2615 : BitVec 32 := 16#32
  let v2577 : BitVec 32 := Scalar.remsi v2576 c16_i32_2615
  let c512_i32_2618 : BitVec 32 := 512#32
  let v2581 : BitVec 32 := Scalar.muli v2577 c512_i32_2618
  let v2582 : Index := Scalar.indexCast v2581
  let c0_2619 : Index := 0#32
  ![v2582.toNat, 0]
def k0_off5 (d0 : Dev nD) (k0_t1 : Fin k0_t1_loop.trips) (c1_i32_2612 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_259 : BitVec 32 := 0#32
  let c1_i32_261 : BitVec 32 := 1#32
  let arg39 : BitVec 32 := Scf.iv c0_i32_259 c1_i32_261 k0_t1
  let v2285 : BitVec 32 := Scalar.muli c3_i32_2276 arg39
  let v2573 : BitVec 32 := Scalar.addi v2285 c1_i32_2612
  let v2578 : BitVec 32 := Scalar.addi v32 v2573
  let c1_i32_2616 : BitVec 32 := 1#32
  let v2579 : BitVec 32 := Scalar.addi v2578 c1_i32_2616
  let c16_i32_2617 : BitVec 32 := 16#32
  let v2580 : BitVec 32 := Scalar.remsi v2579 c16_i32_2617
  let c512_i32_2623 : BitVec 32 := 512#32
  let v2589 : BitVec 32 := Scalar.muli v2580 c512_i32_2623
  let v2590 : Index := Scalar.indexCast v2589
  let c0_2624 : Index := 0#32
  ![v2590.toNat, 0]
def k0_dev43 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2667 : BitVec 32 := 1#32
  let v2625 : BitVec 32 := Scalar.muli v92 c1_i32_2667
  let v2626 : BitVec 32 := Scalar.addi c0_i32_2668 v2625
  v2626.toNat
def k0_dev44 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2670 : BitVec 32 := 1#32
  let v2627 : BitVec 32 := Scalar.muli v62 c1_i32_2670
  let v2628 : BitVec 32 := Scalar.addi c0_i32_2671 v2627
  v2628.toNat
def k0_dev45 (d0 : Dev nD) : Nat :=
  let c0_i32_2693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2692 : BitVec 32 := 1#32
  let v2643 : BitVec 32 := Scalar.muli v62 c1_i32_2692
  let v2644 : BitVec 32 := Scalar.addi c0_i32_2693 v2643
  v2644.toNat
def k0_dev46 (d0 : Dev nD) : Nat :=
  let c0_i32_2703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2702 : BitVec 32 := 1#32
  let v2653 : BitVec 32 := Scalar.muli v92 c1_i32_2702
  let v2654 : BitVec 32 := Scalar.addi c0_i32_2703 v2653
  v2654.toNat
def k0_dev47 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2747 : BitVec 32 := 1#32
  let v2691 : BitVec 32 := Scalar.muli v92 c1_i32_2747
  let v2692 : BitVec 32 := Scalar.addi c0_i32_2748 v2691
  v2692.toNat
def k0_dev48 (d0 : Dev nD) : Nat :=
  let c0_i32_2751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2750 : BitVec 32 := 1#32
  let v2693 : BitVec 32 := Scalar.muli v62 c1_i32_2750
  let v2694 : BitVec 32 := Scalar.addi c0_i32_2751 v2693
  v2694.toNat
def k0_dev49 (d0 : Dev nD) : Nat :=
  let c0_i32_2773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2772 : BitVec 32 := 1#32
  let v2709 : BitVec 32 := Scalar.muli v62 c1_i32_2772
  let v2710 : BitVec 32 := Scalar.addi c0_i32_2773 v2709
  v2710.toNat
def k0_dev50 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2782 : BitVec 32 := 1#32
  let v2719 : BitVec 32 := Scalar.muli v92 c1_i32_2782
  let v2720 : BitVec 32 := Scalar.addi c0_i32_2783 v2719
  v2720.toNat
def k0_dev51 (d0 : Dev nD) : Nat :=
  let c0_i32_2828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2827 : BitVec 32 := 1#32
  let v2757 : BitVec 32 := Scalar.muli v92 c1_i32_2827
  let v2758 : BitVec 32 := Scalar.addi c0_i32_2828 v2757
  v2758.toNat
def k0_dev52 (d0 : Dev nD) : Nat :=
  let c0_i32_2831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2830 : BitVec 32 := 1#32
  let v2759 : BitVec 32 := Scalar.muli v62 c1_i32_2830
  let v2760 : BitVec 32 := Scalar.addi c0_i32_2831 v2759
  v2760.toNat
def k0_dev53 (d0 : Dev nD) : Nat :=
  let c0_i32_2853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2852 : BitVec 32 := 1#32
  let v2775 : BitVec 32 := Scalar.muli v62 c1_i32_2852
  let v2776 : BitVec 32 := Scalar.addi c0_i32_2853 v2775
  v2776.toNat
def k0_dev54 (d0 : Dev nD) : Nat :=
  let c0_i32_2863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2862 : BitVec 32 := 1#32
  let v2785 : BitVec 32 := Scalar.muli v92 c1_i32_2862
  let v2786 : BitVec 32 := Scalar.addi c0_i32_2863 v2785
  v2786.toNat
def k0_dev55 (d0 : Dev nD) : Nat :=
  let c0_i32_2908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2907 : BitVec 32 := 1#32
  let v2823 : BitVec 32 := Scalar.muli v92 c1_i32_2907
  let v2824 : BitVec 32 := Scalar.addi c0_i32_2908 v2823
  v2824.toNat
def k0_dev56 (d0 : Dev nD) : Nat :=
  let c0_i32_2911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2910 : BitVec 32 := 1#32
  let v2825 : BitVec 32 := Scalar.muli v62 c1_i32_2910
  let v2826 : BitVec 32 := Scalar.addi c0_i32_2911 v2825
  v2826.toNat
def k0_dev57 (d0 : Dev nD) : Nat :=
  let c0_i32_2933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2932 : BitVec 32 := 1#32
  let v2841 : BitVec 32 := Scalar.muli v62 c1_i32_2932
  let v2842 : BitVec 32 := Scalar.addi c0_i32_2933 v2841
  v2842.toNat
def k0_dev58 (d0 : Dev nD) : Nat :=
  let c0_i32_2943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2942 : BitVec 32 := 1#32
  let v2851 : BitVec 32 := Scalar.muli v92 c1_i32_2942
  let v2852 : BitVec 32 := Scalar.addi c0_i32_2943 v2851
  v2852.toNat
def k0_dev59 (d0 : Dev nD) : Nat :=
  let c0_i32_3004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3003 : BitVec 32 := 1#32
  let v2913 : BitVec 32 := Scalar.muli v92 c1_i32_3003
  let v2914 : BitVec 32 := Scalar.addi c0_i32_3004 v2913
  v2914.toNat
def k0_dev60 (d0 : Dev nD) : Nat :=
  let c0_i32_3007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3006 : BitVec 32 := 1#32
  let v2915 : BitVec 32 := Scalar.muli v62 c1_i32_3006
  let v2916 : BitVec 32 := Scalar.addi c0_i32_3007 v2915
  v2916.toNat
def k0_dev61 (d0 : Dev nD) : Nat :=
  let c0_i32_3029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3028 : BitVec 32 := 1#32
  let v2931 : BitVec 32 := Scalar.muli v62 c1_i32_3028
  let v2932 : BitVec 32 := Scalar.addi c0_i32_3029 v2931
  v2932.toNat
def k0_dev62 (d0 : Dev nD) : Nat :=
  let c0_i32_3039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3038 : BitVec 32 := 1#32
  let v2941 : BitVec 32 := Scalar.muli v92 c1_i32_3038
  let v2942 : BitVec 32 := Scalar.addi c0_i32_3039 v2941
  v2942.toNat
def k0_dev63 (d0 : Dev nD) : Nat :=
  let c0_i32_3084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3083 : BitVec 32 := 1#32
  let v2979 : BitVec 32 := Scalar.muli v92 c1_i32_3083
  let v2980 : BitVec 32 := Scalar.addi c0_i32_3084 v2979
  v2980.toNat
def k0_dev64 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3086 : BitVec 32 := 1#32
  let v2981 : BitVec 32 := Scalar.muli v62 c1_i32_3086
  let v2982 : BitVec 32 := Scalar.addi c0_i32_3087 v2981
  v2982.toNat
def k0_dev65 (d0 : Dev nD) : Nat :=
  let c0_i32_3109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3108 : BitVec 32 := 1#32
  let v2997 : BitVec 32 := Scalar.muli v62 c1_i32_3108
  let v2998 : BitVec 32 := Scalar.addi c0_i32_3109 v2997
  v2998.toNat
def k0_dev66 (d0 : Dev nD) : Nat :=
  let c0_i32_3119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3118 : BitVec 32 := 1#32
  let v3007 : BitVec 32 := Scalar.muli v92 c1_i32_3118
  let v3008 : BitVec 32 := Scalar.addi c0_i32_3119 v3007
  v3008.toNat
def k0_dev67 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3163 : BitVec 32 := 1#32
  let v3045 : BitVec 32 := Scalar.muli v92 c1_i32_3163
  let v3046 : BitVec 32 := Scalar.addi c0_i32_3164 v3045
  v3046.toNat
def k0_dev68 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3166 : BitVec 32 := 1#32
  let v3047 : BitVec 32 := Scalar.muli v62 c1_i32_3166
  let v3048 : BitVec 32 := Scalar.addi c0_i32_3167 v3047
  v3048.toNat
def k0_dev69 (d0 : Dev nD) : Nat :=
  let c0_i32_3189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3188 : BitVec 32 := 1#32
  let v3063 : BitVec 32 := Scalar.muli v62 c1_i32_3188
  let v3064 : BitVec 32 := Scalar.addi c0_i32_3189 v3063
  v3064.toNat
def k0_dev70 (d0 : Dev nD) : Nat :=
  let c0_i32_3199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3198 : BitVec 32 := 1#32
  let v3073 : BitVec 32 := Scalar.muli v92 c1_i32_3198
  let v3074 : BitVec 32 := Scalar.addi c0_i32_3199 v3073
  v3074.toNat
def k0_dev71 (d0 : Dev nD) : Nat :=
  let c0_i32_3244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3243 : BitVec 32 := 1#32
  let v3111 : BitVec 32 := Scalar.muli v92 c1_i32_3243
  let v3112 : BitVec 32 := Scalar.addi c0_i32_3244 v3111
  v3112.toNat
def k0_dev72 (d0 : Dev nD) : Nat :=
  let c0_i32_3247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3246 : BitVec 32 := 1#32
  let v3113 : BitVec 32 := Scalar.muli v62 c1_i32_3246
  let v3114 : BitVec 32 := Scalar.addi c0_i32_3247 v3113
  v3114.toNat
def k0_dev73 (d0 : Dev nD) : Nat :=
  let c0_i32_3269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3268 : BitVec 32 := 1#32
  let v3129 : BitVec 32 := Scalar.muli v62 c1_i32_3268
  let v3130 : BitVec 32 := Scalar.addi c0_i32_3269 v3129
  v3130.toNat
def k0_dev74 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3278 : BitVec 32 := 1#32
  let v3139 : BitVec 32 := Scalar.muli v92 c1_i32_3278
  let v3140 : BitVec 32 := Scalar.addi c0_i32_3279 v3139
  v3140.toNat
def k0_off6 (d0 : Dev nD) (c12_i32_263 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v259 : BitVec 32 := Scalar.subi v32 c12_i32_263
  let c1_i32_264 : BitVec 32 := 1#32
  let v260 : BitVec 32 := Scalar.subi v259 c1_i32_264
  let c16_i32_265 : BitVec 32 := 16#32
  let v261 : BitVec 32 := Scalar.addi v260 c16_i32_265
  let c16_i32_266 : BitVec 32 := 16#32
  let v262 : BitVec 32 := Scalar.remsi v261 c16_i32_266
  let c512_i32_270 : BitVec 32 := 512#32
  let v266 : BitVec 32 := Scalar.muli v262 c512_i32_270
  let v267 : Index := Scalar.indexCast v266
  let c0_271 : Index := 0#32
  ![v267.toNat, 0]
def k0_off7 (d0 : Dev nD) (c12_i32_267 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v263 : BitVec 32 := Scalar.addi v32 c12_i32_267
  let c1_i32_268 : BitVec 32 := 1#32
  let v264 : BitVec 32 := Scalar.addi v263 c1_i32_268
  let c16_i32_269 : BitVec 32 := 16#32
  let v265 : BitVec 32 := Scalar.remsi v264 c16_i32_269
  let c512_i32_275 : BitVec 32 := 512#32
  let v274 : BitVec 32 := Scalar.muli v265 c512_i32_275
  let v275 : Index := Scalar.indexCast v274
  let c0_276 : Index := 0#32
  ![v275.toNat, 0]
def k0_dev75 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_319 : BitVec 32 := 1#32
  let v310 : BitVec 32 := Scalar.muli v92 c1_i32_319
  let v311 : BitVec 32 := Scalar.addi c0_i32_320 v310
  v311.toNat
def k0_dev76 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_322 : BitVec 32 := 1#32
  let v312 : BitVec 32 := Scalar.muli v62 c1_i32_322
  let v313 : BitVec 32 := Scalar.addi c0_i32_323 v312
  v313.toNat
def k0_dev77 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_343 : BitVec 32 := 1#32
  let v328 : BitVec 32 := Scalar.muli v62 c1_i32_343
  let v329 : BitVec 32 := Scalar.addi c0_i32_344 v328
  v329.toNat
def k0_dev78 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_353 : BitVec 32 := 1#32
  let v338 : BitVec 32 := Scalar.muli v92 c1_i32_353
  let v339 : BitVec 32 := Scalar.addi c0_i32_354 v338
  v339.toNat
def k0_dev79 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_398 : BitVec 32 := 1#32
  let v376 : BitVec 32 := Scalar.muli v92 c1_i32_398
  let v377 : BitVec 32 := Scalar.addi c0_i32_399 v376
  v377.toNat
def k0_dev80 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_401 : BitVec 32 := 1#32
  let v378 : BitVec 32 := Scalar.muli v62 c1_i32_401
  let v379 : BitVec 32 := Scalar.addi c0_i32_402 v378
  v379.toNat
def k0_dev81 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_423 : BitVec 32 := 1#32
  let v394 : BitVec 32 := Scalar.muli v62 c1_i32_423
  let v395 : BitVec 32 := Scalar.addi c0_i32_424 v394
  v395.toNat
def k0_dev82 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_433 : BitVec 32 := 1#32
  let v404 : BitVec 32 := Scalar.muli v92 c1_i32_433
  let v405 : BitVec 32 := Scalar.addi c0_i32_434 v404
  v405.toNat
def k0_dev83 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_478 : BitVec 32 := 1#32
  let v442 : BitVec 32 := Scalar.muli v92 c1_i32_478
  let v443 : BitVec 32 := Scalar.addi c0_i32_479 v442
  v443.toNat
def k0_dev84 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_481 : BitVec 32 := 1#32
  let v444 : BitVec 32 := Scalar.muli v62 c1_i32_481
  let v445 : BitVec 32 := Scalar.addi c0_i32_482 v444
  v445.toNat
def k0_dev85 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_503 : BitVec 32 := 1#32
  let v460 : BitVec 32 := Scalar.muli v62 c1_i32_503
  let v461 : BitVec 32 := Scalar.addi c0_i32_504 v460
  v461.toNat
def k0_dev86 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_513 : BitVec 32 := 1#32
  let v470 : BitVec 32 := Scalar.muli v92 c1_i32_513
  let v471 : BitVec 32 := Scalar.addi c0_i32_514 v470
  v471.toNat
def k0_dev87 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_558 : BitVec 32 := 1#32
  let v508 : BitVec 32 := Scalar.muli v92 c1_i32_558
  let v509 : BitVec 32 := Scalar.addi c0_i32_559 v508
  v509.toNat
def k0_dev88 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_561 : BitVec 32 := 1#32
  let v510 : BitVec 32 := Scalar.muli v62 c1_i32_561
  let v511 : BitVec 32 := Scalar.addi c0_i32_562 v510
  v511.toNat
def k0_dev89 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_583 : BitVec 32 := 1#32
  let v526 : BitVec 32 := Scalar.muli v62 c1_i32_583
  let v527 : BitVec 32 := Scalar.addi c0_i32_584 v526
  v527.toNat
def k0_dev90 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_593 : BitVec 32 := 1#32
  let v536 : BitVec 32 := Scalar.muli v92 c1_i32_593
  let v537 : BitVec 32 := Scalar.addi c0_i32_594 v536
  v537.toNat
def k0_dev91 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_655 : BitVec 32 := 1#32
  let v597 : BitVec 32 := Scalar.muli v92 c1_i32_655
  let v598 : BitVec 32 := Scalar.addi c0_i32_656 v597
  v598.toNat
def k0_dev92 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_658 : BitVec 32 := 1#32
  let v599 : BitVec 32 := Scalar.muli v62 c1_i32_658
  let v600 : BitVec 32 := Scalar.addi c0_i32_659 v599
  v600.toNat
def k0_dev93 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_679 : BitVec 32 := 1#32
  let v615 : BitVec 32 := Scalar.muli v62 c1_i32_679
  let v616 : BitVec 32 := Scalar.addi c0_i32_680 v615
  v616.toNat
def k0_dev94 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_689 : BitVec 32 := 1#32
  let v625 : BitVec 32 := Scalar.muli v92 c1_i32_689
  let v626 : BitVec 32 := Scalar.addi c0_i32_690 v625
  v626.toNat
def k0_dev95 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_734 : BitVec 32 := 1#32
  let v663 : BitVec 32 := Scalar.muli v92 c1_i32_734
  let v664 : BitVec 32 := Scalar.addi c0_i32_735 v663
  v664.toNat
def k0_dev96 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_737 : BitVec 32 := 1#32
  let v665 : BitVec 32 := Scalar.muli v62 c1_i32_737
  let v666 : BitVec 32 := Scalar.addi c0_i32_738 v665
  v666.toNat
def k0_dev97 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_759 : BitVec 32 := 1#32
  let v681 : BitVec 32 := Scalar.muli v62 c1_i32_759
  let v682 : BitVec 32 := Scalar.addi c0_i32_760 v681
  v682.toNat
def k0_dev98 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_769 : BitVec 32 := 1#32
  let v691 : BitVec 32 := Scalar.muli v92 c1_i32_769
  let v692 : BitVec 32 := Scalar.addi c0_i32_770 v691
  v692.toNat
def k0_dev99 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_814 : BitVec 32 := 1#32
  let v729 : BitVec 32 := Scalar.muli v92 c1_i32_814
  let v730 : BitVec 32 := Scalar.addi c0_i32_815 v729
  v730.toNat
def k0_dev100 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_817 : BitVec 32 := 1#32
  let v731 : BitVec 32 := Scalar.muli v62 c1_i32_817
  let v732 : BitVec 32 := Scalar.addi c0_i32_818 v731
  v732.toNat
def k0_dev101 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_839 : BitVec 32 := 1#32
  let v747 : BitVec 32 := Scalar.muli v62 c1_i32_839
  let v748 : BitVec 32 := Scalar.addi c0_i32_840 v747
  v748.toNat
def k0_dev102 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_849 : BitVec 32 := 1#32
  let v757 : BitVec 32 := Scalar.muli v92 c1_i32_849
  let v758 : BitVec 32 := Scalar.addi c0_i32_850 v757
  v758.toNat
def k0_dev103 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_894 : BitVec 32 := 1#32
  let v795 : BitVec 32 := Scalar.muli v92 c1_i32_894
  let v796 : BitVec 32 := Scalar.addi c0_i32_895 v795
  v796.toNat
def k0_dev104 (d0 : Dev nD) : Nat :=
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_897 : BitVec 32 := 1#32
  let v797 : BitVec 32 := Scalar.muli v62 c1_i32_897
  let v798 : BitVec 32 := Scalar.addi c0_i32_898 v797
  v798.toNat
def k0_dev105 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_919 : BitVec 32 := 1#32
  let v813 : BitVec 32 := Scalar.muli v62 c1_i32_919
  let v814 : BitVec 32 := Scalar.addi c0_i32_920 v813
  v814.toNat
def k0_dev106 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_929 : BitVec 32 := 1#32
  let v823 : BitVec 32 := Scalar.muli v92 c1_i32_929
  let v824 : BitVec 32 := Scalar.addi c0_i32_930 v823
  v824.toNat
def k0_dev107 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_991 : BitVec 32 := 1#32
  let v884 : BitVec 32 := Scalar.muli v92 c1_i32_991
  let v885 : BitVec 32 := Scalar.addi c0_i32_992 v884
  v885.toNat
def k0_dev108 (d0 : Dev nD) : Nat :=
  let c0_i32_995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_994 : BitVec 32 := 1#32
  let v886 : BitVec 32 := Scalar.muli v62 c1_i32_994
  let v887 : BitVec 32 := Scalar.addi c0_i32_995 v886
  v887.toNat
def k0_dev109 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1016 : BitVec 32 := 1#32
  let v902 : BitVec 32 := Scalar.muli v62 c1_i32_1016
  let v903 : BitVec 32 := Scalar.addi c0_i32_1017 v902
  v903.toNat
def k0_dev110 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1026 : BitVec 32 := 1#32
  let v912 : BitVec 32 := Scalar.muli v92 c1_i32_1026
  let v913 : BitVec 32 := Scalar.addi c0_i32_1027 v912
  v913.toNat
def k0_dev111 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1071 : BitVec 32 := 1#32
  let v950 : BitVec 32 := Scalar.muli v92 c1_i32_1071
  let v951 : BitVec 32 := Scalar.addi c0_i32_1072 v950
  v951.toNat
def k0_dev112 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1074 : BitVec 32 := 1#32
  let v952 : BitVec 32 := Scalar.muli v62 c1_i32_1074
  let v953 : BitVec 32 := Scalar.addi c0_i32_1075 v952
  v953.toNat
def k0_dev113 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1096 : BitVec 32 := 1#32
  let v968 : BitVec 32 := Scalar.muli v62 c1_i32_1096
  let v969 : BitVec 32 := Scalar.addi c0_i32_1097 v968
  v969.toNat
def k0_dev114 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1106 : BitVec 32 := 1#32
  let v978 : BitVec 32 := Scalar.muli v92 c1_i32_1106
  let v979 : BitVec 32 := Scalar.addi c0_i32_1107 v978
  v979.toNat
def k0_dev115 (d0 : Dev nD) : Nat :=
  let c0_i32_1152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1151 : BitVec 32 := 1#32
  let v1016 : BitVec 32 := Scalar.muli v92 c1_i32_1151
  let v1017 : BitVec 32 := Scalar.addi c0_i32_1152 v1016
  v1017.toNat
def k0_dev116 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1154 : BitVec 32 := 1#32
  let v1018 : BitVec 32 := Scalar.muli v62 c1_i32_1154
  let v1019 : BitVec 32 := Scalar.addi c0_i32_1155 v1018
  v1019.toNat
def k0_dev117 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1176 : BitVec 32 := 1#32
  let v1034 : BitVec 32 := Scalar.muli v62 c1_i32_1176
  let v1035 : BitVec 32 := Scalar.addi c0_i32_1177 v1034
  v1035.toNat
def k0_dev118 (d0 : Dev nD) : Nat :=
  let c0_i32_1187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1186 : BitVec 32 := 1#32
  let v1044 : BitVec 32 := Scalar.muli v92 c1_i32_1186
  let v1045 : BitVec 32 := Scalar.addi c0_i32_1187 v1044
  v1045.toNat
def k0_dev119 (d0 : Dev nD) : Nat :=
  let c0_i32_1232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1231 : BitVec 32 := 1#32
  let v1082 : BitVec 32 := Scalar.muli v92 c1_i32_1231
  let v1083 : BitVec 32 := Scalar.addi c0_i32_1232 v1082
  v1083.toNat
def k0_dev120 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1234 : BitVec 32 := 1#32
  let v1084 : BitVec 32 := Scalar.muli v62 c1_i32_1234
  let v1085 : BitVec 32 := Scalar.addi c0_i32_1235 v1084
  v1085.toNat
def k0_dev121 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1256 : BitVec 32 := 1#32
  let v1100 : BitVec 32 := Scalar.muli v62 c1_i32_1256
  let v1101 : BitVec 32 := Scalar.addi c0_i32_1257 v1100
  v1101.toNat
def k0_dev122 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1266 : BitVec 32 := 1#32
  let v1110 : BitVec 32 := Scalar.muli v92 c1_i32_1266
  let v1111 : BitVec 32 := Scalar.addi c0_i32_1267 v1110
  v1111.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_1272 : BitVec 32 := 1#32
  let v1120 : BitVec 32 := Scalar.addi v32 c1_i32_1272
  let c16_i32_1273 : BitVec 32 := 16#32
  let v1121 : BitVec 32 := Scalar.remsi v1120 c16_i32_1273
  let c512_i32_1346 : BitVec 32 := 512#32
  let v1277 : BitVec 32 := Scalar.muli v1121 c512_i32_1346
  let c0_i32_1347 : BitVec 32 := 0#32
  ![v1277.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_1274 : BitVec 32 := 1#32
  let v1122 : BitVec 32 := Scalar.subi v32 c1_i32_1274
  let c16_i32_1275 : BitVec 32 := 16#32
  let v1123 : BitVec 32 := Scalar.addi v1122 c16_i32_1275
  let c16_i32_1276 : BitVec 32 := 16#32
  let v1124 : BitVec 32 := Scalar.remsi v1123 c16_i32_1276
  let c512_i32_1348 : BitVec 32 := 512#32
  let v1279 : BitVec 32 := Scalar.muli v1124 c512_i32_1348
  let c2048_i32 : BitVec 32 := 2048#32
  ![v1279.toNat, 2048]
@[reducible] def k0_t2_loop : Scf.Loop 32 :=
  let c0_i32_1351 : BitVec 32 := 0#32
  let c4_i32_1352 : BitVec 32 := 4#32
  let v1283 : BitVec 32 := Scalar.addi c0_i32_1351 c4_i32_1352
  let c1_i32_1353 : BitVec 32 := 1#32
  ⟨c0_i32_1351, v1283, c1_i32_1353⟩
def k0_dev123 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2316 : BitVec 32 := 1#32
  let v2314 : BitVec 32 := Scalar.muli v92 c1_i32_2316
  let v2315 : BitVec 32 := Scalar.addi c0_i32_2317 v2314
  v2315.toNat
def k0_dev124 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2319 : BitVec 32 := 1#32
  let v2316 : BitVec 32 := Scalar.muli v62 c1_i32_2319
  let v2317 : BitVec 32 := Scalar.addi c0_i32_2320 v2316
  v2317.toNat
def k0_dev125 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2329 : BitVec 32 := 1#32
  let v2318 : BitVec 32 := Scalar.muli v62 c1_i32_2329
  let v2319 : BitVec 32 := Scalar.addi c0_i32_2330 v2318
  v2319.toNat
def k0_dev126 (d0 : Dev nD) : Nat :=
  let c0_i32_2340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2339 : BitVec 32 := 1#32
  let v2328 : BitVec 32 := Scalar.muli v92 c1_i32_2339
  let v2329 : BitVec 32 := Scalar.addi c0_i32_2340 v2328
  v2329.toNat
def k0_dev127 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2384 : BitVec 32 := 1#32
  let v2366 : BitVec 32 := Scalar.muli v92 c1_i32_2384
  let v2367 : BitVec 32 := Scalar.addi c0_i32_2385 v2366
  v2367.toNat
def k0_dev128 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2387 : BitVec 32 := 1#32
  let v2368 : BitVec 32 := Scalar.muli v62 c1_i32_2387
  let v2369 : BitVec 32 := Scalar.addi c0_i32_2388 v2368
  v2369.toNat
def k0_dev129 (d0 : Dev nD) : Nat :=
  let c0_i32_2398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2397 : BitVec 32 := 1#32
  let v2370 : BitVec 32 := Scalar.muli v62 c1_i32_2397
  let v2371 : BitVec 32 := Scalar.addi c0_i32_2398 v2370
  v2371.toNat
def k0_dev130 (d0 : Dev nD) : Nat :=
  let c0_i32_2408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2407 : BitVec 32 := 1#32
  let v2380 : BitVec 32 := Scalar.muli v92 c1_i32_2407
  let v2381 : BitVec 32 := Scalar.addi c0_i32_2408 v2380
  v2381.toNat
def k0_dev131 (d0 : Dev nD) : Nat :=
  let c0_i32_2453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2452 : BitVec 32 := 1#32
  let v2418 : BitVec 32 := Scalar.muli v92 c1_i32_2452
  let v2419 : BitVec 32 := Scalar.addi c0_i32_2453 v2418
  v2419.toNat
def k0_dev132 (d0 : Dev nD) : Nat :=
  let c0_i32_2456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2455 : BitVec 32 := 1#32
  let v2420 : BitVec 32 := Scalar.muli v62 c1_i32_2455
  let v2421 : BitVec 32 := Scalar.addi c0_i32_2456 v2420
  v2421.toNat
def k0_dev133 (d0 : Dev nD) : Nat :=
  let c0_i32_2466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2465 : BitVec 32 := 1#32
  let v2422 : BitVec 32 := Scalar.muli v62 c1_i32_2465
  let v2423 : BitVec 32 := Scalar.addi c0_i32_2466 v2422
  v2423.toNat
def k0_dev134 (d0 : Dev nD) : Nat :=
  let c0_i32_2476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2475 : BitVec 32 := 1#32
  let v2432 : BitVec 32 := Scalar.muli v92 c1_i32_2475
  let v2433 : BitVec 32 := Scalar.addi c0_i32_2476 v2432
  v2433.toNat
def k0_dev135 (d0 : Dev nD) : Nat :=
  let c0_i32_2521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2520 : BitVec 32 := 1#32
  let v2470 : BitVec 32 := Scalar.muli v92 c1_i32_2520
  let v2471 : BitVec 32 := Scalar.addi c0_i32_2521 v2470
  v2471.toNat
def k0_dev136 (d0 : Dev nD) : Nat :=
  let c0_i32_2524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2523 : BitVec 32 := 1#32
  let v2472 : BitVec 32 := Scalar.muli v62 c1_i32_2523
  let v2473 : BitVec 32 := Scalar.addi c0_i32_2524 v2472
  v2473.toNat
def k0_dev137 (d0 : Dev nD) : Nat :=
  let c0_i32_2534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2533 : BitVec 32 := 1#32
  let v2474 : BitVec 32 := Scalar.muli v62 c1_i32_2533
  let v2475 : BitVec 32 := Scalar.addi c0_i32_2534 v2474
  v2475.toNat
def k0_dev138 (d0 : Dev nD) : Nat :=
  let c0_i32_2544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2543 : BitVec 32 := 1#32
  let v2484 : BitVec 32 := Scalar.muli v92 c1_i32_2543
  let v2485 : BitVec 32 := Scalar.addi c0_i32_2544 v2484
  v2485.toNat
def k0_off10 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_1351 : BitVec 32 := 0#32
  let c1_i32_1353 : BitVec 32 := 1#32
  let arg39 : BitVec 32 := Scf.iv c0_i32_1351 c1_i32_1353 k0_t2
  let v2285 : BitVec 32 := Scalar.muli c3_i32_2276 arg39
  let v2494 : BitVec 32 := Scalar.subi v32 v2285
  let c16_i32_2549 : BitVec 32 := 16#32
  let v2495 : BitVec 32 := Scalar.addi v2494 c16_i32_2549
  let c16_i32_2550 : BitVec 32 := 16#32
  let v2496 : BitVec 32 := Scalar.remsi v2495 c16_i32_2550
  let c512_i32_2624 : BitVec 32 := 512#32
  let v2651 : BitVec 32 := Scalar.muli v2496 c512_i32_2624
  let c0_i32_2625 : BitVec 32 := 0#32
  ![v2651.toNat, 0]
def k0_off11 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_1351 : BitVec 32 := 0#32
  let c1_i32_1353 : BitVec 32 := 1#32
  let arg39 : BitVec 32 := Scf.iv c0_i32_1351 c1_i32_1353 k0_t2
  let v2285 : BitVec 32 := Scalar.muli c3_i32_2276 arg39
  let v2497 : BitVec 32 := Scalar.addi v32 v2285
  let c16_i32_2551 : BitVec 32 := 16#32
  let v2498 : BitVec 32 := Scalar.remsi v2497 c16_i32_2551
  let c512_i32_2626 : BitVec 32 := 512#32
  let v2653 : BitVec 32 := Scalar.muli v2498 c512_i32_2626
  let c2048_i32_2627 : BitVec 32 := 2048#32
  ![v2653.toNat, 2048]
def k0_dev139 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2670 : BitVec 32 := 1#32
  let v2686 : BitVec 32 := Scalar.muli v92 c1_i32_2670
  let v2687 : BitVec 32 := Scalar.addi c0_i32_2671 v2686
  v2687.toNat
def k0_dev140 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2673 : BitVec 32 := 1#32
  let v2688 : BitVec 32 := Scalar.muli v62 c1_i32_2673
  let v2689 : BitVec 32 := Scalar.addi c0_i32_2674 v2688
  v2689.toNat
def k0_dev141 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2683 : BitVec 32 := 1#32
  let v2690 : BitVec 32 := Scalar.muli v62 c1_i32_2683
  let v2691 : BitVec 32 := Scalar.addi c0_i32_2684 v2690
  v2691.toNat
def k0_dev142 (d0 : Dev nD) : Nat :=
  let c0_i32_2694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2693 : BitVec 32 := 1#32
  let v2700 : BitVec 32 := Scalar.muli v92 c1_i32_2693
  let v2701 : BitVec 32 := Scalar.addi c0_i32_2694 v2700
  v2701.toNat
def k0_dev143 (d0 : Dev nD) : Nat :=
  let c0_i32_2739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2738 : BitVec 32 := 1#32
  let v2738 : BitVec 32 := Scalar.muli v92 c1_i32_2738
  let v2739 : BitVec 32 := Scalar.addi c0_i32_2739 v2738
  v2739.toNat
def k0_dev144 (d0 : Dev nD) : Nat :=
  let c0_i32_2742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2741 : BitVec 32 := 1#32
  let v2740 : BitVec 32 := Scalar.muli v62 c1_i32_2741
  let v2741 : BitVec 32 := Scalar.addi c0_i32_2742 v2740
  v2741.toNat
def k0_dev145 (d0 : Dev nD) : Nat :=
  let c0_i32_2752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2751 : BitVec 32 := 1#32
  let v2742 : BitVec 32 := Scalar.muli v62 c1_i32_2751
  let v2743 : BitVec 32 := Scalar.addi c0_i32_2752 v2742
  v2743.toNat
def k0_dev146 (d0 : Dev nD) : Nat :=
  let c0_i32_2762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2761 : BitVec 32 := 1#32
  let v2752 : BitVec 32 := Scalar.muli v92 c1_i32_2761
  let v2753 : BitVec 32 := Scalar.addi c0_i32_2762 v2752
  v2753.toNat
def k0_dev147 (d0 : Dev nD) : Nat :=
  let c0_i32_2807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2806 : BitVec 32 := 1#32
  let v2790 : BitVec 32 := Scalar.muli v92 c1_i32_2806
  let v2791 : BitVec 32 := Scalar.addi c0_i32_2807 v2790
  v2791.toNat
def k0_dev148 (d0 : Dev nD) : Nat :=
  let c0_i32_2810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2809 : BitVec 32 := 1#32
  let v2792 : BitVec 32 := Scalar.muli v62 c1_i32_2809
  let v2793 : BitVec 32 := Scalar.addi c0_i32_2810 v2792
  v2793.toNat
def k0_dev149 (d0 : Dev nD) : Nat :=
  let c0_i32_2820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2819 : BitVec 32 := 1#32
  let v2794 : BitVec 32 := Scalar.muli v62 c1_i32_2819
  let v2795 : BitVec 32 := Scalar.addi c0_i32_2820 v2794
  v2795.toNat
def k0_dev150 (d0 : Dev nD) : Nat :=
  let c0_i32_2830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2829 : BitVec 32 := 1#32
  let v2804 : BitVec 32 := Scalar.muli v92 c1_i32_2829
  let v2805 : BitVec 32 := Scalar.addi c0_i32_2830 v2804
  v2805.toNat
def k0_dev151 (d0 : Dev nD) : Nat :=
  let c0_i32_2875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2874 : BitVec 32 := 1#32
  let v2842 : BitVec 32 := Scalar.muli v92 c1_i32_2874
  let v2843 : BitVec 32 := Scalar.addi c0_i32_2875 v2842
  v2843.toNat
def k0_dev152 (d0 : Dev nD) : Nat :=
  let c0_i32_2878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2877 : BitVec 32 := 1#32
  let v2844 : BitVec 32 := Scalar.muli v62 c1_i32_2877
  let v2845 : BitVec 32 := Scalar.addi c0_i32_2878 v2844
  v2845.toNat
def k0_dev153 (d0 : Dev nD) : Nat :=
  let c0_i32_2888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2887 : BitVec 32 := 1#32
  let v2846 : BitVec 32 := Scalar.muli v62 c1_i32_2887
  let v2847 : BitVec 32 := Scalar.addi c0_i32_2888 v2846
  v2847.toNat
def k0_dev154 (d0 : Dev nD) : Nat :=
  let c0_i32_2898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2897 : BitVec 32 := 1#32
  let v2856 : BitVec 32 := Scalar.muli v92 c1_i32_2897
  let v2857 : BitVec 32 := Scalar.addi c0_i32_2898 v2856
  v2857.toNat
def k0_off12 (d0 : Dev nD) (k0_t2 : Fin k0_t2_loop.trips) (c1_i32_2630 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_1351 : BitVec 32 := 0#32
  let c1_i32_1353 : BitVec 32 := 1#32
  let arg39 : BitVec 32 := Scf.iv c0_i32_1351 c1_i32_1353 k0_t2
  let v2285 : BitVec 32 := Scalar.muli c3_i32_2276 arg39
  let v2657 : BitVec 32 := Scalar.addi v2285 c1_i32_2630
  let v2866 : BitVec 32 := Scalar.subi v32 v2657
  let c16_i32_2903 : BitVec 32 := 16#32
  let v2867 : BitVec 32 := Scalar.addi v2866 c16_i32_2903
  let c16_i32_2904 : BitVec 32 := 16#32
  let v2868 : BitVec 32 := Scalar.remsi v2867 c16_i32_2904
  let c512_i32_2978 : BitVec 32 := 512#32
  let v3023 : BitVec 32 := Scalar.muli v2868 c512_i32_2978
  let c0_i32_2979 : BitVec 32 := 0#32
  ![v3023.toNat, 0]
def k0_off13 (d0 : Dev nD) (k0_t2 : Fin k0_t2_loop.trips) (c1_i32_2630 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c3_i32_2276 : BitVec 32 := 3#32
  let c0_i32_1351 : BitVec 32 := 0#32
  let c1_i32_1353 : BitVec 32 := 1#32
  let arg39 : BitVec 32 := Scf.iv c0_i32_1351 c1_i32_1353 k0_t2
  let v2285 : BitVec 32 := Scalar.muli c3_i32_2276 arg39
  let v2657 : BitVec 32 := Scalar.addi v2285 c1_i32_2630
  let v2869 : BitVec 32 := Scalar.addi v32 v2657
  let c16_i32_2905 : BitVec 32 := 16#32
  let v2870 : BitVec 32 := Scalar.remsi v2869 c16_i32_2905
  let c512_i32_2980 : BitVec 32 := 512#32
  let v3025 : BitVec 32 := Scalar.muli v2870 c512_i32_2980
  let c2048_i32_2981 : BitVec 32 := 2048#32
  ![v3025.toNat, 2048]
def k0_dev155 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3024 : BitVec 32 := 1#32
  let v3058 : BitVec 32 := Scalar.muli v92 c1_i32_3024
  let v3059 : BitVec 32 := Scalar.addi c0_i32_3025 v3058
  v3059.toNat
def k0_dev156 (d0 : Dev nD) : Nat :=
  let c0_i32_3028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3027 : BitVec 32 := 1#32
  let v3060 : BitVec 32 := Scalar.muli v62 c1_i32_3027
  let v3061 : BitVec 32 := Scalar.addi c0_i32_3028 v3060
  v3061.toNat
def k0_dev157 (d0 : Dev nD) : Nat :=
  let c0_i32_3038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3037 : BitVec 32 := 1#32
  let v3062 : BitVec 32 := Scalar.muli v62 c1_i32_3037
  let v3063 : BitVec 32 := Scalar.addi c0_i32_3038 v3062
  v3063.toNat
def k0_dev158 (d0 : Dev nD) : Nat :=
  let c0_i32_3048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3047 : BitVec 32 := 1#32
  let v3072 : BitVec 32 := Scalar.muli v92 c1_i32_3047
  let v3073 : BitVec 32 := Scalar.addi c0_i32_3048 v3072
  v3073.toNat
def k0_dev159 (d0 : Dev nD) : Nat :=
  let c0_i32_3093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3092 : BitVec 32 := 1#32
  let v3110 : BitVec 32 := Scalar.muli v92 c1_i32_3092
  let v3111 : BitVec 32 := Scalar.addi c0_i32_3093 v3110
  v3111.toNat
def k0_dev160 (d0 : Dev nD) : Nat :=
  let c0_i32_3096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3095 : BitVec 32 := 1#32
  let v3112 : BitVec 32 := Scalar.muli v62 c1_i32_3095
  let v3113 : BitVec 32 := Scalar.addi c0_i32_3096 v3112
  v3113.toNat
def k0_dev161 (d0 : Dev nD) : Nat :=
  let c0_i32_3106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3105 : BitVec 32 := 1#32
  let v3114 : BitVec 32 := Scalar.muli v62 c1_i32_3105
  let v3115 : BitVec 32 := Scalar.addi c0_i32_3106 v3114
  v3115.toNat
def k0_dev162 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3115 : BitVec 32 := 1#32
  let v3124 : BitVec 32 := Scalar.muli v92 c1_i32_3115
  let v3125 : BitVec 32 := Scalar.addi c0_i32_3116 v3124
  v3125.toNat
def k0_dev163 (d0 : Dev nD) : Nat :=
  let c0_i32_3161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3160 : BitVec 32 := 1#32
  let v3162 : BitVec 32 := Scalar.muli v92 c1_i32_3160
  let v3163 : BitVec 32 := Scalar.addi c0_i32_3161 v3162
  v3163.toNat
def k0_dev164 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3163 : BitVec 32 := 1#32
  let v3164 : BitVec 32 := Scalar.muli v62 c1_i32_3163
  let v3165 : BitVec 32 := Scalar.addi c0_i32_3164 v3164
  v3165.toNat
def k0_dev165 (d0 : Dev nD) : Nat :=
  let c0_i32_3174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3173 : BitVec 32 := 1#32
  let v3166 : BitVec 32 := Scalar.muli v62 c1_i32_3173
  let v3167 : BitVec 32 := Scalar.addi c0_i32_3174 v3166
  v3167.toNat
def k0_dev166 (d0 : Dev nD) : Nat :=
  let c0_i32_3184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3183 : BitVec 32 := 1#32
  let v3176 : BitVec 32 := Scalar.muli v92 c1_i32_3183
  let v3177 : BitVec 32 := Scalar.addi c0_i32_3184 v3176
  v3177.toNat
def k0_dev167 (d0 : Dev nD) : Nat :=
  let c0_i32_3229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3228 : BitVec 32 := 1#32
  let v3214 : BitVec 32 := Scalar.muli v92 c1_i32_3228
  let v3215 : BitVec 32 := Scalar.addi c0_i32_3229 v3214
  v3215.toNat
def k0_dev168 (d0 : Dev nD) : Nat :=
  let c0_i32_3232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3231 : BitVec 32 := 1#32
  let v3216 : BitVec 32 := Scalar.muli v62 c1_i32_3231
  let v3217 : BitVec 32 := Scalar.addi c0_i32_3232 v3216
  v3217.toNat
def k0_dev169 (d0 : Dev nD) : Nat :=
  let c0_i32_3242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_3241 : BitVec 32 := 1#32
  let v3218 : BitVec 32 := Scalar.muli v62 c1_i32_3241
  let v3219 : BitVec 32 := Scalar.addi c0_i32_3242 v3218
  v3219.toNat
def k0_dev170 (d0 : Dev nD) : Nat :=
  let c0_i32_3252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_3251 : BitVec 32 := 1#32
  let v3228 : BitVec 32 := Scalar.muli v92 c1_i32_3251
  let v3229 : BitVec 32 := Scalar.addi c0_i32_3252 v3228
  v3229.toNat
def k0_dev171 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1394 : BitVec 32 := 1#32
  let v1312 : BitVec 32 := Scalar.muli v92 c1_i32_1394
  let v1313 : BitVec 32 := Scalar.addi c0_i32_1395 v1312
  v1313.toNat
def k0_dev172 (d0 : Dev nD) : Nat :=
  let c0_i32_1398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1397 : BitVec 32 := 1#32
  let v1314 : BitVec 32 := Scalar.muli v62 c1_i32_1397
  let v1315 : BitVec 32 := Scalar.addi c0_i32_1398 v1314
  v1315.toNat
def k0_dev173 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1407 : BitVec 32 := 1#32
  let v1316 : BitVec 32 := Scalar.muli v62 c1_i32_1407
  let v1317 : BitVec 32 := Scalar.addi c0_i32_1408 v1316
  v1317.toNat
def k0_dev174 (d0 : Dev nD) : Nat :=
  let c0_i32_1418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1417 : BitVec 32 := 1#32
  let v1326 : BitVec 32 := Scalar.muli v92 c1_i32_1417
  let v1327 : BitVec 32 := Scalar.addi c0_i32_1418 v1326
  v1327.toNat
def k0_dev175 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1462 : BitVec 32 := 1#32
  let v1364 : BitVec 32 := Scalar.muli v92 c1_i32_1462
  let v1365 : BitVec 32 := Scalar.addi c0_i32_1463 v1364
  v1365.toNat
def k0_dev176 (d0 : Dev nD) : Nat :=
  let c0_i32_1466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1465 : BitVec 32 := 1#32
  let v1366 : BitVec 32 := Scalar.muli v62 c1_i32_1465
  let v1367 : BitVec 32 := Scalar.addi c0_i32_1466 v1366
  v1367.toNat
def k0_dev177 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1475 : BitVec 32 := 1#32
  let v1368 : BitVec 32 := Scalar.muli v62 c1_i32_1475
  let v1369 : BitVec 32 := Scalar.addi c0_i32_1476 v1368
  v1369.toNat
def k0_dev178 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1485 : BitVec 32 := 1#32
  let v1378 : BitVec 32 := Scalar.muli v92 c1_i32_1485
  let v1379 : BitVec 32 := Scalar.addi c0_i32_1486 v1378
  v1379.toNat
def k0_dev179 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1530 : BitVec 32 := 1#32
  let v1416 : BitVec 32 := Scalar.muli v92 c1_i32_1530
  let v1417 : BitVec 32 := Scalar.addi c0_i32_1531 v1416
  v1417.toNat
def k0_dev180 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1533 : BitVec 32 := 1#32
  let v1418 : BitVec 32 := Scalar.muli v62 c1_i32_1533
  let v1419 : BitVec 32 := Scalar.addi c0_i32_1534 v1418
  v1419.toNat
def k0_dev181 (d0 : Dev nD) : Nat :=
  let c0_i32_1544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1543 : BitVec 32 := 1#32
  let v1420 : BitVec 32 := Scalar.muli v62 c1_i32_1543
  let v1421 : BitVec 32 := Scalar.addi c0_i32_1544 v1420
  v1421.toNat
def k0_dev182 (d0 : Dev nD) : Nat :=
  let c0_i32_1554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1553 : BitVec 32 := 1#32
  let v1430 : BitVec 32 := Scalar.muli v92 c1_i32_1553
  let v1431 : BitVec 32 := Scalar.addi c0_i32_1554 v1430
  v1431.toNat
def k0_dev183 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1598 : BitVec 32 := 1#32
  let v1468 : BitVec 32 := Scalar.muli v92 c1_i32_1598
  let v1469 : BitVec 32 := Scalar.addi c0_i32_1599 v1468
  v1469.toNat
def k0_dev184 (d0 : Dev nD) : Nat :=
  let c0_i32_1602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1601 : BitVec 32 := 1#32
  let v1470 : BitVec 32 := Scalar.muli v62 c1_i32_1601
  let v1471 : BitVec 32 := Scalar.addi c0_i32_1602 v1470
  v1471.toNat
def k0_dev185 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1611 : BitVec 32 := 1#32
  let v1472 : BitVec 32 := Scalar.muli v62 c1_i32_1611
  let v1473 : BitVec 32 := Scalar.addi c0_i32_1612 v1472
  v1473.toNat
def k0_dev186 (d0 : Dev nD) : Nat :=
  let c0_i32_1622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1621 : BitVec 32 := 1#32
  let v1482 : BitVec 32 := Scalar.muli v92 c1_i32_1621
  let v1483 : BitVec 32 := Scalar.addi c0_i32_1622 v1482
  v1483.toNat
def k0_off14 (d0 : Dev nD) (c12_i32_1627 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v1492 : BitVec 32 := Scalar.subi v32 c12_i32_1627
  let c16_i32_1628 : BitVec 32 := 16#32
  let v1493 : BitVec 32 := Scalar.addi v1492 c16_i32_1628
  let c16_i32_1629 : BitVec 32 := 16#32
  let v1494 : BitVec 32 := Scalar.remsi v1493 c16_i32_1629
  let c512_i32_1704 : BitVec 32 := 512#32
  let v1649 : BitVec 32 := Scalar.muli v1494 c512_i32_1704
  let c0_i32_1705 : BitVec 32 := 0#32
  ![v1649.toNat, 0]
def k0_off15 (d0 : Dev nD) (c12_i32_1630 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v1495 : BitVec 32 := Scalar.addi v32 c12_i32_1630
  let c16_i32_1631 : BitVec 32 := 16#32
  let v1496 : BitVec 32 := Scalar.remsi v1495 c16_i32_1631
  let c512_i32_1706 : BitVec 32 := 512#32
  let v1651 : BitVec 32 := Scalar.muli v1496 c512_i32_1706
  let c2048_i32_1707 : BitVec 32 := 2048#32
  ![v1651.toNat, 2048]
def k0_dev187 (d0 : Dev nD) : Nat :=
  let c0_i32_1757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1756 : BitVec 32 := 1#32
  let v1683 : BitVec 32 := Scalar.muli v62 c1_i32_1756
  let v1684 : BitVec 32 := Scalar.addi c0_i32_1757 v1683
  v1684.toNat
def k0_dev188 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1766 : BitVec 32 := 1#32
  let v1693 : BitVec 32 := Scalar.muli v92 c1_i32_1766
  let v1694 : BitVec 32 := Scalar.addi c0_i32_1767 v1693
  v1694.toNat
def k0_dev189 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1818 : BitVec 32 := 1#32
  let v1731 : BitVec 32 := Scalar.muli v62 c1_i32_1818
  let v1732 : BitVec 32 := Scalar.addi c0_i32_1819 v1731
  v1732.toNat
def k0_dev190 (d0 : Dev nD) : Nat :=
  let c0_i32_1829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1828 : BitVec 32 := 1#32
  let v1741 : BitVec 32 := Scalar.muli v92 c1_i32_1828
  let v1742 : BitVec 32 := Scalar.addi c0_i32_1829 v1741
  v1742.toNat
def k0_dev191 (d0 : Dev nD) : Nat :=
  let c0_i32_1881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1880 : BitVec 32 := 1#32
  let v1779 : BitVec 32 := Scalar.muli v62 c1_i32_1880
  let v1780 : BitVec 32 := Scalar.addi c0_i32_1881 v1779
  v1780.toNat
def k0_dev192 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1890 : BitVec 32 := 1#32
  let v1789 : BitVec 32 := Scalar.muli v92 c1_i32_1890
  let v1790 : BitVec 32 := Scalar.addi c0_i32_1891 v1789
  v1790.toNat
def k0_dev193 (d0 : Dev nD) : Nat :=
  let c0_i32_1943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1942 : BitVec 32 := 1#32
  let v1827 : BitVec 32 := Scalar.muli v62 c1_i32_1942
  let v1828 : BitVec 32 := Scalar.addi c0_i32_1943 v1827
  v1828.toNat
def k0_dev194 (d0 : Dev nD) : Nat :=
  let c0_i32_1953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1952 : BitVec 32 := 1#32
  let v1837 : BitVec 32 := Scalar.muli v92 c1_i32_1952
  let v1838 : BitVec 32 := Scalar.addi c0_i32_1953 v1837
  v1838.toNat
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Macro.lean ====
/- The kernel's body written once more in the words of its source: what one hop of one chain does, what one group
   of four hops does, what one store of a finished chunk does. `Shape.lean` shows the printed body is this one. -/
module

public import proofs.«01_k».proof.Proof.Gen.KernelIdeal.Skeleton

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The programs of one core. -/
abbrev Pg (F : FTy → Type) (α : Type) := Prog (TpuEff nD τ sig (Elt F) Λ₀ .tc) α

/-! ## The operands -/

abbrev xM : Memref sig .tc .vmem S8192x512 .bf16 := Memref.whole cc0_stg0_0
abbrev wM : Memref sig .tc .vmem S512x4096 .bf16 := Memref.whole cc0_stg1_0
abbrev outM : Memref sig .tc .hbm S8192x4096 .f32 := Memref.whole main_v1

/-- The three-slot buffer of the chain of ring `ρ` (0 to the right, 1 to the left) and rows `k`. -/
@[reducible] def commM (ρ : Fin 2) (k : Fin 4) : Memref sig .tc .vmem S3x128x2048 .bf16 :=
  match ρ, k with
  | 0, 0 => Memref.whole cc0_scratch0 | 0, 1 => Memref.whole cc0_scratch1
  | 0, 2 => Memref.whole cc0_scratch2 | 0, 3 => Memref.whole cc0_scratch3
  | 1, 0 => Memref.whole cc0_scratch4 | 1, 1 => Memref.whole cc0_scratch5
  | 1, 2 => Memref.whole cc0_scratch6 | 1, 3 => Memref.whole cc0_scratch7

/-- The buffer a finished chunk of ring `ρ` is put together in. -/
@[reducible] def stageM (ρ : Fin 2) : Memref sig .tc .vmem S512x2048 .f32 :=
  match ρ with
  | 0 => Memref.whole cc0_scratch8 | 1 => Memref.whole cc0_scratch9

/-- The semaphores that count what a chain has sent. -/
@[reducible] def sendSems (ρ : Fin 2) (k : Fin 4) : DmaSems sig S3 :=
  match ρ, k with
  | 0, 0 => cc0_scratch10 | 0, 1 => cc0_scratch12 | 0, 2 => cc0_scratch14 | 0, 3 => cc0_scratch16
  | 1, 0 => cc0_scratch18 | 1, 1 => cc0_scratch20 | 1, 2 => cc0_scratch22 | 1, 3 => cc0_scratch24

/-- The semaphores that count what a chain has received. -/
@[reducible] def recvSems (ρ : Fin 2) (k : Fin 4) : DmaSems sig S3 :=
  match ρ, k with
  | 0, 0 => cc0_scratch11 | 0, 1 => cc0_scratch13 | 0, 2 => cc0_scratch15 | 0, 3 => cc0_scratch17
  | 1, 0 => cc0_scratch19 | 1, 1 => cc0_scratch21 | 1, 2 => cc0_scratch23 | 1, 3 => cc0_scratch25

/-- The semaphores of the stores of finished chunks. -/
@[reducible] def outSems (ρ : Fin 2) : DmaSems sig S_ :=
  match ρ with
  | 0 => cc0_scratch26 | 1 => cc0_scratch27

/-- The semaphores that count the credits of a chain. -/
@[reducible] def credSems (ρ : Fin 2) (k : Fin 4) : Sems sig S_ :=
  match ρ, k with
  | 0, 0 => cc0_scratch28 | 0, 1 => cc0_scratch29 | 0, 2 => cc0_scratch30 | 0, 3 => cc0_scratch31
  | 1, 0 => cc0_scratch32 | 1, 1 => cc0_scratch33 | 1, 2 => cc0_scratch34 | 1, 3 => cc0_scratch35

abbrev barS : Sems sig S_ := SemArray.scalar (sig.barrier 0 rfl)

theorem commM_whole (ρ : Fin 2) (k : Fin 4) : (commM ρ k).IsWhole :=
  match ρ, k with
  | 0, 0 => Memref.isWhole_whole _ | 0, 1 => Memref.isWhole_whole _
  | 0, 2 => Memref.isWhole_whole _ | 0, 3 => Memref.isWhole_whole _
  | 1, 0 => Memref.isWhole_whole _ | 1, 1 => Memref.isWhole_whole _
  | 1, 2 => Memref.isWhole_whole _ | 1, 3 => Memref.isWhole_whole _

theorem stageM_whole (ρ : Fin 2) : (stageM ρ).IsWhole :=
  match ρ with
  | 0 => Memref.isWhole_whole _ | 1 => Memref.isWhole_whole _

/-! ## Where a slot lies -/

theorem slot_inb : ∀ s : Fin 3, ∀ a, (![s.val, 0, 0] : Fin 3 → ℕ) a + S1x128x2048.size a ≤ S3x128x2048.size a := by decide
theorem sem_inb : ∀ s : Fin 3, ∀ a, (![s.val] : Fin 1 → ℕ) a + S1.size a ≤ S3.size a := by decide
theorem part_inb : ∀ k : Fin 4, ∀ a, (![128 * k.val, 0] : Fin 2 → ℕ) a + S128x2048.size a ≤ S512x2048.size a := by decide
theorem half_inb : ∀ ρ : Fin 2, ∀ a, (![0, 2048 * ρ.val] : Fin 2 → ℕ) a + S512x2048.size a ≤ S512x4096.size a := by decide

/-- Slot `s` of a chain's buffer. -/
abbrev slotR (s : Fin 3) : Rect S3x128x2048 := Rect.unit (s := S3x128x2048) ![s.val, 0, 0] S1x128x2048.size (slot_inb s)
/-- Rows `k` of a chunk. -/
abbrev partR (k : Fin 4) : Rect S512x2048 := Rect.unit (s := S512x2048) ![128 * k.val, 0] S128x2048.size (part_inb k)
/-- The columns ring `ρ` computes. -/
abbrev halfR (ρ : Fin 2) : Rect S512x4096 := Rect.unit (s := S512x4096) ![0, 2048 * ρ.val] S512x2048.size (half_inb ρ)

theorem slot_words (s : Fin 3) : (slotR s).WholeWords (EltTy.packing .bf16) :=
  match s with
  | 0 => wordsbf16_S3x128x2048_S1x128x2048_0_0_0
  | 1 => wordsbf16_S3x128x2048_S1x128x2048_1_0_0
  | 2 => wordsbf16_S3x128x2048_S1x128x2048_2_0_0
theorem slot_packed (s : Fin 3) : (slotR s).PackedRows (EltTy.packing .bf16) :=
  match s with
  | 0 => packedbf16_S3x128x2048_S1x128x2048_0_0_0
  | 1 => packedbf16_S3x128x2048_S1x128x2048_1_0_0
  | 2 => packedbf16_S3x128x2048_S1x128x2048_2_0_0
theorem part_slices (k : Fin 4) : S512x2048.Slices ![128 * k.val, 0] S128x2048 :=
  match k with
  | 0 => slices_S512x2048_o0_0_S128x2048 | 1 => slices_S512x2048_o128_0_S128x2048
  | 2 => slices_S512x2048_o256_0_S128x2048 | 3 => slices_S512x2048_o384_0_S128x2048

/-- Slot `s` as a block of 128 rows. -/
abbrev slotM (ρ : Fin 2) (k : Fin 4) (s : Fin 3) : Memref sig .tc .vmem S128x2048 .bf16 :=
  ((commM ρ k).slice (slotR s) (fun _ => rfl)).squeeze S128x2048 squeezes_S1x128x2048_S128x2048
theorem slotM_words (ρ : Fin 2) (k : Fin 4) (s : Fin 3) : (slotM ρ k s).view.WordExact :=
  ((commM_whole ρ k).wordExact_slice rfl _ (slot_words s)).reshape _ _
theorem slotM_sc (ρ : Fin 2) (k : Fin 4) (s : Fin 3) : (slotM ρ k s).view.ref.isScScratch = false :=
  match ρ, k with
  | 0, 0 => rfl | 0, 1 => rfl | 0, 2 => rfl | 0, 3 => rfl
  | 1, 0 => rfl | 1, 1 => rfl | 1, 2 => rfl | 1, 3 => rfl

abbrev sendS (ρ : Fin 2) (k : Fin 4) (s : Fin 3) : DmaSem sig :=
  (((sendSems ρ k).slice (Rect.unit (s := S3) ![s.val] S1.size (sem_inb s))).squeeze S_ squeezes_S1_S_).sem
abbrev recvS (ρ : Fin 2) (k : Fin 4) (s : Fin 3) : DmaSem sig :=
  (((recvSems ρ k).slice (Rect.unit (s := S3) ![s.val] S1.size (sem_inb s))).squeeze S_ squeezes_S1_S_).sem

/-! ## Neighbours -/

/-- Whom ring `ρ` sends to. -/
def toD (ρ : Fin 2) (c : Dev nD) : Dev nD :=
  match ρ with
  | 0 => ⟨k0_dev2 c, k0_dev2_lt c⟩ | 1 => ⟨k0_dev1 c, k0_dev1_lt c⟩
/-- Whom ring `ρ` receives from. -/
def fromD (ρ : Fin 2) (c : Dev nD) : Dev nD :=
  match ρ with
  | 0 => ⟨k0_dev1 c, k0_dev1_lt c⟩ | 1 => ⟨k0_dev2 c, k0_dev2_lt c⟩

/-! ## What is stored -/

/-- A chunk's product on one device: 512 rows of `x` times half the columns of `w`. -/
def part (x : Vec F S512x512 .bf16) (w : Vec F S512x2048 .bf16) : FVec F S512x2048 .bf16 :=
  truncf .bf16 (matmul dot_S512x512_S512x2048_S512x2048_1_0_0_1_n_n none (shapeCast S512x512 x shapeCasts_S512x512_S512x512)
    (shapeCast S512x2048 w shapeCasts_S512x2048_S512x2048) (constant S512x2048 .f32 0x00000000#32)) bitsLt_bf16_f32
/-- Rows `k` of a product. -/
def rows (k : Fin 4) (p : FVec F S512x2048 .bf16) : FVec F S128x2048 .bf16 :=
  extractStridedSlice S128x2048 ![128 * k.val, 0] p (part_slices k)
/-- A block of 128 rows as a slot holds it. -/
def up (v : FVec F S128x2048 .bf16) : FVec F S1x128x2048 .bf16 := shapeCast S1x128x2048 v shapeCasts_S128x2048_S1x128x2048
/-- What a slot holds as a block of 128 rows. -/
def down (v : FVec F S1x128x2048 .bf16) : FVec F S128x2048 .bf16 := shapeCast S128x2048 v shapeCasts_S1x128x2048_S128x2048
/-- The activation of a block of 128 rows. -/
def act (u : FVec F S128x2048 .bf16) : FVec F S128x2048 .f32 :=
  have y : FVec F S128x2048 .f32 := extf .f32 u bitsLt_bf16_f32
  have a : FVec F S128x2048 .f32 := mulf (broadcast S128x2048 (Scalar.ofBits .f32 0x3F000000#32)) y
  have b : FVec F S128x2048 .f32 := mulf (mulf (mulf (broadcast S128x2048 (Scalar.ofBits .f32 0x3D372713#32)) y) y) y
  have t : FVec F S128x2048 .f32 := tanh (mulf (broadcast S128x2048 (Scalar.ofBits .f32 0x3F4C422A#32)) (addf y b))
  shapeCast S128x2048 (mulf a (addf (broadcast S128x2048 (Scalar.ofBits .f32 0x3F800000#32)) t)) shapeCasts_S128x2048_S128x2048

/-! ## The steps -/

def loadX (o : Fin 2 → ℕ) (h : ∀ a, o a + S512x512.size a ≤ S8192x512.size a) : Pg F (Vec F S512x512 .bf16) :=
  Prog.lift (.load xM (Rect.unit (s := S8192x512) o S512x512.size h).toLoadRect (View.loadsAt_vmem h_S512x512))
def loadW (ρ : Fin 2) : Pg F (Vec F S512x2048 .bf16) :=
  Prog.lift (.load wM (halfR ρ).toLoadRect (View.loadsAt_vmem h_S512x2048))
def loadSlot (ρ : Fin 2) (k : Fin 4) (s : Fin 3) : Pg F (Vec F S1x128x2048 .bf16) :=
  Prog.lift (.load (commM ρ k) (slotR s).toLoadRect (View.loadsAt_vmem h_S1x128x2048))
def storeSlot (ρ : Fin 2) (k : Fin 4) (s : Fin 3) (v : FVec F S1x128x2048 .bf16) : Pg F PUnit :=
  Prog.lift (.store (commM ρ k) (slotR s) v Finset.univ
    (View.stores_vmem h_S1x128x2048 ((commM_whole ρ k).storeExact_slice rfl _ (slot_packed s)) (fun _ => rfl)) (.inl rfl))

/-- A hop's transfer, from slot `s` to slot `d` of the next device `n`. -/
def send (n : Dev nD) (ρ : Fin 2) (k : Fin 4) (s d : Fin 3) : Pg F PUnit :=
  Prog.lift (.enqueueDma (slotM ρ k s) (.remote (Dev.tc n) (slotM ρ k d) (.dma (sendS ρ k s)) (slotM_sc ρ k d)) (.dma (recvS ρ k d))
    (slotM_words ρ k s) (slotM_words ρ k d) ⟨⟨rfl, Or.inl rfl⟩, trivial⟩)
/-- Starting one hop of both rings: each waits for its credit, then sends. -/
def startSub (c : Dev nD) (k : Fin 4) (s d : Fin 3) : Pg F PUnit := do
  semWaitWord (credSems 0 k).sem 1#32
  semWaitWord (credSems 1 k).sem 1#32
  send (toD 0 c) 0 k s d
  send (toD 1 c) 1 k s d
/-- Waiting for one hop of one ring: what was sent has left, what was to come has come. -/
def waitHop (ρ : Fin 2) (k : Fin 4) (s d : Fin 3) : Pg F PUnit := do
  Prog.lift (.waitDma2 (sendS ρ k s) (slotM ρ k d) (slotM ρ k s) (slotM_words ρ k d) (slotM_words ρ k s))
  Prog.lift (.waitDma2 (recvS ρ k d) (slotM ρ k s) (slotM ρ k d) (slotM_words ρ k s) (slotM_words ρ k d))
def waitSub (k : Fin 4) (s d : Fin 3) : Pg F PUnit := do
  waitHop 0 k s d
  waitHop 1 k s d
/-- The credits for the slots just freed. -/
def signalSub (c : Dev nD) (k : Fin 4) : Pg F PUnit := do
  semSignalWord (fromD 0 c) (credSems 0 k).sem 1#32
  semSignalWord (fromD 1 c) (credSems 1 k).sem 1#32
/-- Adding the device's own product to what came. -/
def accum (ρ : Fin 2) (k : Fin 4) (d : Fin 3) (p : FVec F S512x2048 .bf16) : Pg F PUnit := do
  let v ← loadSlot ρ k d
  let _ ← loadSlot (F := F) ρ k d
  storeSlot ρ k d (up (addf (down v) (rows k p)))

def rsSub (c : Dev nD) (p0 p1 : FVec F S512x2048 .bf16) (k : Fin 4) (s d e : Fin 3) : Pg F PUnit := do
  waitSub k s d
  signalSub c k
  accum 0 k d p0
  accum 1 k d p1
  startSub c k d e
/-- One step of the reduction: the product of the next chunk, then each of the four parts goes one hop on. -/
def rsMid (c : Dev nD) (o0 o1 : Fin 2 → ℕ) (h0 : ∀ a, o0 a + S512x512.size a ≤ S8192x512.size a)
    (h1 : ∀ a, o1 a + S512x512.size a ≤ S8192x512.size a) (s d e : Fin 3) : Pg F PUnit := do
  let x0 ← loadX o0 h0
  let w0 ← loadW 0
  let x1 ← loadX o1 h1
  let w1 ← loadW 1
  rsSub c (part x0 w0) (part x1 w1) 0 s d e
  rsSub c (part x0 w0) (part x1 w1) 1 s d e
  rsSub c (part x0 w0) (part x1 w1) 2 s d e
  rsSub c (part x0 w0) (part x1 w1) 3 s d e

/-- One part of a finished chunk, through the activation, into the stage. -/
def stagePart (ρ : Fin 2) (k : Fin 4) (d : Fin 3) : Pg F PUnit := do
  let v ← loadSlot ρ k d
  let _ ← (Prog.lift (.load (stageM ρ) (partR k).toLoadRect (View.loadsAt_vmem h_S128x2048)) : Pg F (Vec F S128x2048 .f32))
  Prog.lift (.store (stageM ρ) (partR k) (act (down v)) Finset.univ (View.stores_vmem_bits_univ h_S128x2048 rfl) (.inl rfl))

/-- The rows and columns of the result a chunk goes to. -/
abbrev outV (o : Fin 2 → ℕ) (h : ∀ a, o a + S512x2048.size a ≤ S8192x4096.size a) : Memref sig .tc .hbm S512x2048 .f32 :=
  outM.slice (Rect.unit (s := S8192x4096) o S512x2048.size h) (fun _ => rfl)
def copyOut (ρ : Fin 2) (o : Fin 2 → ℕ) (h : ∀ a, o a + S512x2048.size a ≤ S8192x4096.size a) : Pg F PUnit :=
  Prog.lift (.enqueueDma (stageM ρ) (.here (outV o h)) (.dma (outSems ρ).sem) (stageM_whole ρ).wordExact (View.wordExact_bits rfl)
    ⟨Or.inl rfl, trivial⟩)
def waitOut (ρ : Fin 2) (o : Fin 2 → ℕ) (h : ∀ a, o a + S512x2048.size a ≤ S8192x4096.size a) : Pg F PUnit :=
  Prog.lift (.waitDma2 (outSems ρ).sem (stageM ρ) (outV o h) (stageM_whole ρ).wordExact (View.wordExact_bits rfl))

/-- Storing a finished chunk of each ring to the result. -/
def agStore (d : Fin 3) (o0 o1 : Fin 2 → ℕ) (h0 : ∀ a, o0 a + S512x2048.size a ≤ S8192x4096.size a)
    (h1 : ∀ a, o1 a + S512x2048.size a ≤ S8192x4096.size a) : Pg F PUnit := do
  stagePart 0 0 d; stagePart 0 1 d; stagePart 0 2 d; stagePart 0 3 d
  stagePart 1 0 d; stagePart 1 1 d; stagePart 1 2 d; stagePart 1 3 d
  copyOut 0 o0 h0
  copyOut 1 o1 h1
  waitOut 0 o0 h0
  waitOut 1 o1 h1

def agSub (c : Dev nD) (sig : Bool) (k : Fin 4) (s d e : Fin 3) : Pg F PUnit := do
  waitSub k s d
  if sig then signalSub c k else pure ⟨⟩
  startSub c k d e
/-- One step of the gathering: each part goes one hop on, and is stored. -/
def agMid (c : Dev nD) (sig : Bool) (o0 o1 : Fin 2 → ℕ) (h0 : ∀ a, o0 a + S512x2048.size a ≤ S8192x4096.size a)
    (h1 : ∀ a, o1 a + S512x2048.size a ≤ S8192x4096.size a) (s d e : Fin 3) : Pg F PUnit := do
  agSub c sig 0 s d e; agSub c sig 1 s d e; agSub c sig 2 s d e; agSub c sig 3 s d e
  agStore d o0 o1 h0 h1

/-- The device's own product into slot 0 of a chain. -/
def initPart (ρ : Fin 2) (k : Fin 4) (p : FVec F S512x2048 .bf16) : Pg F PUnit := do
  let _ ← loadSlot (F := F) ρ k 0
  storeSlot ρ k 0 (up (rows k p))
def signalAll (c : Dev nD) : Pg F PUnit := do
  semSignalWord (fromD 0 c) (credSems 0 0).sem 1#32
  semSignalWord (fromD 0 c) (credSems 0 1).sem 1#32
  semSignalWord (fromD 0 c) (credSems 0 2).sem 1#32
  semSignalWord (fromD 0 c) (credSems 0 3).sem 1#32
  semSignalWord (fromD 1 c) (credSems 1 0).sem 1#32
  semSignalWord (fromD 1 c) (credSems 1 1).sem 1#32
  semSignalWord (fromD 1 c) (credSems 1 2).sem 1#32
  semSignalWord (fromD 1 c) (credSems 1 3).sem 1#32
/-- Meeting the neighbours. -/
def meet (c : Dev nD) : Pg F PUnit := do
  semSignalWord (fromD 0 c) barS.sem 1#32
  semSignalWord (fromD 1 c) barS.sem 1#32
  semWaitWord barS.sem 2#32
/-- The first product into slot 0 of every chain. -/
def fill (o : Fin 2 → ℕ) (h : ∀ a, o a + S512x512.size a ≤ S8192x512.size a) : Pg F PUnit := do
  let x0 ← loadX o h
  let w0 ← loadW 0
  let x1 ← loadX o h
  let w1 ← loadW 1
  initPart 0 0 (part x0 w0); initPart 0 1 (part x0 w0); initPart 0 2 (part x0 w0); initPart 0 3 (part x0 w0)
  initPart 1 0 (part x1 w1); initPart 1 1 (part x1 w1); initPart 1 2 (part x1 w1); initPart 1 3 (part x1 w1)
def startAll (c : Dev nD) (s d : Fin 3) : Pg F PUnit := do
  startSub c 0 s d; startSub c 1 s d; startSub c 2 s d; startSub c 3 s d
def prologue (c : Dev nD) : Pg F PUnit := do
  meet c
  fill (k0_off1 c) (k0_off1_inb c)
  signalAll c
  signalAll c
  startAll c 0 1

/-- Three steps of the reduction, as the first loop takes them. -/
def rsTrip (c : Dev nD) (t : Fin k0_t1_loop.trips) : Pg F PUnit := do
  rsMid c (k0_off2 c t) (k0_off3 c t) (k0_off2_inb c t) (k0_off3_inb c t) 0 1 2
  rsMid c (k0_off4 c t 1#32) (k0_off5 c t 1#32) (k0_off4_inb c t 0) (k0_off5_inb c t 0) 1 2 0
  rsMid c (k0_off4 c t 2#32) (k0_off5 c t 2#32) (k0_off4_inb c t 1) (k0_off5_inb c t 1) 2 0 1
/-- Three steps of the gathering, as the second loop takes them. -/
def agTrip (c : Dev nD) (t : Fin k0_t2_loop.trips) : Pg F PUnit := do
  agMid c true (k0_off10 c t) (k0_off11 c t) (k0_off10_inb c t) (k0_off11_inb c t) 0 1 2
  agMid c true (k0_off12 c t 1#32) (k0_off13 c t 1#32) (k0_off12_inb c t 0) (k0_off13_inb c t 0) 1 2 0
  agMid c true (k0_off12 c t 2#32) (k0_off13 c t 2#32) (k0_off12_inb c t 1) (k0_off13_inb c t 1) 2 0 1
def waitAll (s d : Fin 3) : Pg F PUnit := do
  waitSub 0 s d; waitSub 1 s d; waitSub 2 s d; waitSub 3 s d

def rsTail (c : Dev nD) : Pg F PUnit := do
  rsMid c (k0_off6 c 12#32) (k0_off7 c 12#32) (k0_off6_inb c 0) (k0_off7_inb c 0) 0 1 2
  rsMid c (k0_off6 c 13#32) (k0_off7 c 13#32) (k0_off6_inb c 1) (k0_off7_inb c 1) 1 2 0
  rsMid c (k0_off6 c 14#32) (k0_off7 c 14#32) (k0_off6_inb c 2) (k0_off7_inb c 2) 2 0 1
def agTail (c : Dev nD) : Pg F PUnit := do
  agMid c true (k0_off14 c 12#32) (k0_off15 c 12#32) (k0_off14_inb c 0) (k0_off15_inb c 0) 0 1 2
  agMid c false (k0_off14 c 13#32) (k0_off15 c 13#32) (k0_off14_inb c 1) (k0_off15_inb c 1) 1 2 0
  waitAll 2 0
  agStore 0 (k0_off14 c 14#32) (k0_off15 c 14#32) (k0_off14_inb c 2) (k0_off15_inb c 2)
/-- The whole body on device `c`. -/
def core (c : Dev nD) : Pg F PUnit := do
  prologue c
  Scf.Loop.for k0_t1_loop k0_t1_ok ⟨⟩ (fun t _ => rsTrip c t)
  rsTail c
  agStore 0 (k0_off8 c) (k0_off9 c) (k0_off8_inb c) (k0_off9_inb c)
  Scf.Loop.for k0_t2_loop k0_t2_ok ⟨⟩ (fun t _ => agTrip c t)
  agTail c

end Cert.KernelIdeal.Ring

end
-- ==== Proof.Chunks.lean ====
/- Which chunk of rows a device works on at which hop, whom it sends to, and what a chain carries. -/
module

public import proofs.«01_k».proof.Proof.Macro
public import Idealize.ShloMosaic.Lib.Pipeline.Value

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- A chain: its ring and its rows. -/
abbrev Ch := Fin 2 × Fin 4

/-! ## Neighbours -/

theorem to_from (ρ : Fin 2) (c : Dev nD) : toD ρ (fromD ρ c) = c := by revert ρ c; decide +kernel
theorem from_to (ρ : Fin 2) (c : Dev nD) : fromD ρ (toD ρ c) = c := by revert ρ c; decide +kernel
theorem from_one (c : Dev nD) : fromD 1 c = toD 0 c := rfl
theorem to_one (c : Dev nD) : toD 1 c = fromD 0 c := rfl

/-- The ring as a bijection of the devices. -/
def ringE (ρ : Fin 2) : Dev nD ≃ Dev nD := ⟨toD ρ, fromD ρ, from_to ρ, to_from ρ⟩

/-! ## Slots and chunks -/

/-- The slot hop `h` sends from; hop `h` lands in the slot of `h + 1`. -/
def sl (h : ℕ) : Fin 3 := ⟨h % 3, Nat.mod_lt _ (by decide)⟩

theorem sl_add3 (h : ℕ) : sl (h + 3) = sl h := Fin.ext (Nat.add_mod_right h 3)

/-- A device's place on the ring. -/
def rk (c : Dev nD) : ℕ := (![0, 7, 8, 15, 1, 6, 9, 14, 2, 5, 10, 13, 3, 4, 11, 12] : Fin 16 → ℕ) c

/-- The chunk of rows device `c` holds in ring `ρ` before hop `n`. -/
def chk (ρ : Fin 2) (c : Dev nD) (n : ℕ) : ℕ := if ρ = 0 then (rk c + 64 - n) % 16 else (rk c + n) % 16

theorem chk_lt (ρ : Fin 2) (c : Dev nD) (n : ℕ) : chk ρ c n < 16 := by
  unfold chk; split <;> exact Nat.mod_lt _ (by decide)

/-- What a device gets is what the one before it held. -/
theorem chk_from (ρ : Fin 2) (c : Dev nD) (n : ℕ) (hn : n < 31) : chk ρ c (n + 1) = chk ρ (fromD ρ c) n := by
  have h : ∀ (ρ : Fin 2) (c : Dev nD) (n : Fin 31), chk ρ c (n.val + 1) = chk ρ (fromD ρ c) n.val := by decide +kernel
  exact h ρ c ⟨n, hn⟩

/-- Sixteen hops on end bring sixteen chunks. -/
theorem chk_inj (ρ : Fin 2) (c : Dev nD) {n n' : ℕ} (h : 15 ≤ n) (h' : n < 31) (g : 15 ≤ n') (g' : n' < 31)
    (e : chk ρ c n = chk ρ c n') : n = n' := by
  have hr : rk c < 16 := by clear e; revert c; decide
  unfold chk at e
  split at e <;> omega

/-! ## Offsets -/

def xo (ρ : Fin 2) (c : Dev nD) (n : ℕ) : Fin 2 → ℕ := ![512 * chk ρ c n, 0]
theorem xo_inb (ρ : Fin 2) (c : Dev nD) (n : ℕ) : ∀ a, xo ρ c n a + S512x512.size a ≤ S8192x512.size a := by
  have h := chk_lt ρ c n
  intro a
  match a with
  | 0 => show 512 * chk ρ c n + 512 ≤ 8192; omega
  | 1 => show 0 + 512 ≤ 512; omega

def oo (ρ : Fin 2) (c : Dev nD) (n : ℕ) : Fin 2 → ℕ := ![512 * chk ρ c n, 2048 * ρ.val]
theorem oo_inb (ρ : Fin 2) (c : Dev nD) (n : ℕ) : ∀ a, oo ρ c n a + S512x2048.size a ≤ S8192x4096.size a := by
  have h := chk_lt ρ c n
  have hρ := ρ.isLt
  intro a
  match a with
  | 0 => show 512 * chk ρ c n + 512 ≤ 8192; omega
  | 1 => show 2048 * ρ.val + 2048 ≤ 4096; omega

theorem off1 (c : Dev nD) : k0_off1 c = xo 0 c 0 := by revert c; decide +kernel
theorem off1' (c : Dev nD) : k0_off1 c = xo 1 c 0 := by revert c; decide +kernel
theorem off2 (c : Dev nD) (t : Fin k0_t1_loop.trips) : k0_off2 c t = xo 0 c (3 * t.val + 1) := by revert c t; decide +kernel
theorem off3 (c : Dev nD) (t : Fin k0_t1_loop.trips) : k0_off3 c t = xo 1 c (3 * t.val + 1) := by revert c t; decide +kernel
theorem off4a (c : Dev nD) (t : Fin k0_t1_loop.trips) : k0_off4 c t 1#32 = xo 0 c (3 * t.val + 2) := by revert c t; decide +kernel
theorem off4b (c : Dev nD) (t : Fin k0_t1_loop.trips) : k0_off4 c t 2#32 = xo 0 c (3 * t.val + 3) := by revert c t; decide +kernel
theorem off5a (c : Dev nD) (t : Fin k0_t1_loop.trips) : k0_off5 c t 1#32 = xo 1 c (3 * t.val + 2) := by revert c t; decide +kernel
theorem off5b (c : Dev nD) (t : Fin k0_t1_loop.trips) : k0_off5 c t 2#32 = xo 1 c (3 * t.val + 3) := by revert c t; decide +kernel
theorem off6a (c : Dev nD) : k0_off6 c 12#32 = xo 0 c 13 := by revert c; decide +kernel
theorem off6b (c : Dev nD) : k0_off6 c 13#32 = xo 0 c 14 := by revert c; decide +kernel
theorem off6c (c : Dev nD) : k0_off6 c 14#32 = xo 0 c 15 := by revert c; decide +kernel
theorem off7a (c : Dev nD) : k0_off7 c 12#32 = xo 1 c 13 := by revert c; decide +kernel
theorem off7b (c : Dev nD) : k0_off7 c 13#32 = xo 1 c 14 := by revert c; decide +kernel
theorem off7c (c : Dev nD) : k0_off7 c 14#32 = xo 1 c 15 := by revert c; decide +kernel
theorem off8 (c : Dev nD) : k0_off8 c = oo 0 c 15 := by revert c; decide +kernel
theorem off9 (c : Dev nD) : k0_off9 c = oo 1 c 15 := by revert c; decide +kernel
theorem off10 (c : Dev nD) (t : Fin k0_t2_loop.trips) : k0_off10 c t = oo 0 c (3 * t.val + 16) := by revert c t; decide +kernel
theorem off11 (c : Dev nD) (t : Fin k0_t2_loop.trips) : k0_off11 c t = oo 1 c (3 * t.val + 16) := by revert c t; decide +kernel
theorem off12a (c : Dev nD) (t : Fin k0_t2_loop.trips) : k0_off12 c t 1#32 = oo 0 c (3 * t.val + 17) := by revert c t; decide +kernel
theorem off12b (c : Dev nD) (t : Fin k0_t2_loop.trips) : k0_off12 c t 2#32 = oo 0 c (3 * t.val + 18) := by revert c t; decide +kernel
theorem off13a (c : Dev nD) (t : Fin k0_t2_loop.trips) : k0_off13 c t 1#32 = oo 1 c (3 * t.val + 17) := by revert c t; decide +kernel
theorem off13b (c : Dev nD) (t : Fin k0_t2_loop.trips) : k0_off13 c t 2#32 = oo 1 c (3 * t.val + 18) := by revert c t; decide +kernel
theorem off14a (c : Dev nD) : k0_off14 c 12#32 = oo 0 c 28 := by revert c; decide +kernel
theorem off14b (c : Dev nD) : k0_off14 c 13#32 = oo 0 c 29 := by revert c; decide +kernel
theorem off14c (c : Dev nD) : k0_off14 c 14#32 = oo 0 c 30 := by revert c; decide +kernel
theorem off15a (c : Dev nD) : k0_off15 c 12#32 = oo 1 c 28 := by revert c; decide +kernel
theorem off15b (c : Dev nD) : k0_off15 c 13#32 = oo 1 c 29 := by revert c; decide +kernel
theorem off15c (c : Dev nD) : k0_off15 c 14#32 = oo 1 c 30 := by revert c; decide +kernel

/-! ## What a chain carries -/

/-- What each device is given: its columns of `x` and its rows of `w`, as its core holds them. -/
structure Ins (F : FTy → Type) where
  x : Dev nD → (xM : Memref sig .tc .vmem S8192x512 .bf16).view.ty.Contents (Elt F)
  w : Dev nD → (wM : Memref sig .tc .vmem S512x4096 .bf16).view.ty.Contents (Elt F)

/-- Device `c`'s product for the chunk it holds before hop `n`. -/
def prodAt (I : Ins F) (ρ : Fin 2) (c : Dev nD) (n : ℕ) : FVec F S512x2048 .bf16 :=
  part ((xM : Memref sig .tc .vmem S8192x512 .bf16).view.readAt (Elt F) (Rect.unit (s := S8192x512) (xo ρ c n) S512x512.size (xo_inb ρ c n)).toLoadRect (I.x c))
    ((wM : Memref sig .tc .vmem S512x4096 .bf16).view.readAt (Elt F) (halfR ρ).toLoadRect (I.w c))

/-- What chain `j` of device `c` sends at hop `n`: sums of products while the chunk collects them, then the
    finished chunk. -/
def cont (I : Ins F) (j : Ch) : ℕ → Dev nD → FVec F S128x2048 .bf16
  | 0, c => rows j.2 (prodAt I j.1 c 0)
  | n + 1, c => if n < 15 then addf (cont I j n (fromD j.1 c)) (rows j.2 (prodAt I j.1 c (n + 1))) else cont I j n (fromD j.1 c)

theorem cont_add (I : Ins F) (j : Ch) {n : ℕ} (h : n < 15) (c : Dev nD) :
    cont I j (n + 1) c = addf (cont I j n (fromD j.1 c)) (rows j.2 (prodAt I j.1 c (n + 1))) := by
  rw [cont, if_pos h]
theorem cont_pass (I : Ins F) (j : Ch) {n : ℕ} (h : 15 ≤ n) (c : Dev nD) :
    cont I j (n + 1) c = cont I j n (fromD j.1 c) := by
  rw [cont, if_neg (Nat.not_lt.2 h)]

/-! ## Slots as blocks -/

theorem up_down (v : FVec F S1x128x2048 .bf16) : up (down v) = v := shapeCast_shapeCast v _ _
theorem down_up (v : FVec F S128x2048 .bf16) : down (up v) = v := shapeCast_shapeCast v _ _

/-- A slot read as a block is what a load of it reads. -/
theorem slot_read (ρ : Fin 2) (k : Fin 4) (s : Fin 3) (f : (commM ρ k).view.ty.Contents (Elt F)) :
    (slotM ρ k s).view.read (Elt F) f = down ((commM ρ k).view.readAt (Elt F) (slotR s).toLoadRect f) := rfl

/-- A block stored in a slot is read there. -/
theorem slot_read_store (ρ : Fin 2) (k : Fin 4) (s : Fin 3) (f : (commM ρ k).view.ty.Contents (Elt F)) (u : FVec F S128x2048 .bf16) :
    (slotM ρ k s).view.read (Elt F) (((commM ρ k).access (slotR s)).write (Elt F) f (up u) Finset.univ) = u := by
  rw [slot_read]
  have e : (commM ρ k).view.readAt (Elt F) (slotR s).toLoadRect (((commM ρ k).access (slotR s)).write (Elt F) f (up u) Finset.univ) = up u := by
    rw [View.readAt_rect]; exact View.read_write_univ _ _
  rw [e, down_up]

theorem slot_set (ρ : Fin 2) (k : Fin 4) (s : Fin 3) : (slotM ρ k s).view.set = ((commM ρ k).access (slotR s)).set :=
  Memref.set_view_squeeze _ _

/-- Rows `k` of a chunk of 512. -/
def partOf (k : Fin 4) (g : FVec F S512x2048 .f32) : FVec F S128x2048 .f32 := fun i => g ((partR k).emb i)

end Cert.KernelIdeal.Ring

end
-- ==== Proof.Ghost.lean ====
/- The protocol between the devices: the semaphores two devices share, what each unit on one of them hands over,
   and the order in which they may be waited for. -/
module

public import proofs.«01_k».proof.Proof.Chunks
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Transfers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ghost state -/

/-- A slot of a device: the device, the chain, the slot. -/
abbrev Key := Dev nD × Ch × Fin 3

abbrev UU : Type := UR sig nD τ × (URounds (GSem nD τ sig) ℕ × (Release.USlots Key × Counters))

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := Emb.inl.trans embR
def ES : Emb (Release.USlots Key) (MT nD τ sig ℕ (Elt F) ℕ UU ℕ) := (Emb.inl.trans Emb.inr).trans embR

instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## The shared semaphores -/

/-- The semaphores two devices share: the barrier; per chain and slot what was sent and what came; per chain the credits. -/
abbrev Kind := Unit ⊕ (Ch × Fin 3) ⊕ (Ch × Fin 3) ⊕ Ch

instance : DecidableEq ((Ch × Fin 3) ⊕ Ch) := inferInstance
instance : DecidableEq ((Ch × Fin 3) ⊕ (Ch × Fin 3) ⊕ Ch) := instDecidableEqSum
instance : DecidableEq Kind := instDecidableEqSum

@[match_pattern] abbrev barK : Kind := .inl ()
@[match_pattern] abbrev sendK (j : Ch) (s : Fin 3) : Kind := .inr (.inl (j, s))
@[match_pattern] abbrev recvK (j : Ch) (s : Fin 3) : Kind := .inr (.inr (.inl (j, s)))
@[match_pattern] abbrev credK (j : Ch) : Kind := .inr (.inr (.inr j))

def csem : Kind → SemLoc sig
  | barK => .reg barS.sem
  | sendK j s => .dma (sendS j.1 j.2 s)
  | recvK j s => .dma (recvS j.1 j.2 s)
  | credK j => .reg (credSems j.1 j.2).sem

theorem csem_inj : Function.Injective csem := by
  have h : ∀ a b : Kind, csem a = csem b → a = b := by decide +kernel
  exact fun a b => h a b

/-- The kind a semaphore is of, if any. -/
def kindOf (sm : SemLoc sig) : Option Kind := by
  classical exact if h : ∃ k, csem k = sm then some h.choose else none

theorem kindOf_csem (k : Kind) : kindOf (csem k) = some k := by
  have h : ∃ k', csem k' = csem k := ⟨k, rfl⟩
  unfold kindOf
  rw [dif_pos h]
  exact congrArg some (csem_inj h.choose_spec)

/-- The semaphore of kind `k` of device `c`. -/
abbrev cell (c : Dev nD) (k : Kind) : GSem nD τ sig := ((c : Thread nD τ), csem k)

theorem cell_inj : Function.Injective (fun x : Dev nD × Kind => cell x.1 x.2) := by
  rintro ⟨c, k⟩ ⟨c', k'⟩ h
  have h1 : c = c' := congrArg (fun g : GSem nD τ sig => g.1.1) h
  have h2 : k = k' := csem_inj (congrArg Prod.snd h)
  rw [h1, h2]

/-- What one transfer of a block adds to a semaphore. -/
abbrev N : ℕ := (slotM 0 0 0).view.dmaCredit
theorem N_pos : 0 < N := View.dmaCredit_pos _ (by decide)
theorem slot_credit (ρ : Fin 2) (k : Fin 4) (s : Fin 3) : (slotM ρ k s).view.dmaCredit = N :=
  match ρ, k with
  | 0, 0 => rfl | 0, 1 => rfl | 0, 2 => rfl | 0, 3 => rfl
  | 1, 0 => rfl | 1, 1 => rfl | 1, 2 => rfl | 1, 3 => rfl

/-! ## Slots -/

/-- Slot `s` of chain `j` of device `c`, holding the block `u`. -/
def slotV (c : Dev nD) (j : Ch) (s : Fin 3) (q : PosShare TreeShare) (u : FVec F S128x2048 .bf16) : sProp 𝕄 :=
  iprop(∃ f, ⌜(slotM j.1 j.2 s).view.read (Elt F) f = u⌝
    ∗ ((slotM j.1 j.2 s).view.loc (c : Thread nD τ) ↦[(slotM j.1 j.2 s).view.set]{q} f))
/-- The slot, whatever it holds. -/
def slotA (x : Key) : sProp 𝕄 :=
  iprop(∃ f, ((slotM x.2.1.1 x.2.1.2 x.2.2).view.loc (x.1 : Thread nD τ) ↦[(slotM x.2.1.1 x.2.1.2 x.2.2).view.set]{fullShare} f))

instance slotV_storable (c : Dev nD) (j : Ch) (s : Fin 3) (q : PosShare TreeShare) (u : FVec F S128x2048 .bf16) :
    BI.Storable (upEmb : UEmb _ 𝕄) (slotV c j s q u) := by unfold slotV; infer_instance
instance slotA_storable (x : Key) : BI.Storable (upEmb : UEmb _ 𝕄) (slotA (F := F) x) := by unfold slotA; infer_instance

theorem slotV_any (c : Dev nD) (j : Ch) (s : Fin 3) (u : FVec F S128x2048 .bf16) :
    slotV c j s fullShare u ⊢ slotA (F := F) (c, j, s) := by
  unfold slotV slotA
  iintro ⟨%f, -, H⟩
  iexists f
  iexact H

theorem slotA_excl (x : Key) : iprop(slotA (F := F) x ∗ slotA x) ⊢ (False : sProp 𝕄) := by
  obtain ⟨c, ⟨ρ, k⟩, s⟩ := x
  exact Release.slot_slot_false (View.set_nonempty (by decide))

/-! ## What is handed over -/

/-- Credit `i` of chain `j` from device `t`: `t`'s slot for hop `i` has been freed, and `t` stands at that slot's round. -/
def freed (j : Ch) (t : Dev nD) (i : ℕ) : sProp 𝕄 :=
  iprop(Release.released ES (t, j, sl (i + 1)) (i / 3 + 1) ∗ reached ER (cell t (recvK j (sl (i + 1)))) (i / 3))

instance freed_storable (j : Ch) (t : Dev nD) (i : ℕ) : BI.Storable (upEmb : UEmb _ 𝕄) (freed (F := F) j t i) := by
  unfold freed reached; infer_instance
instance freed_persistent (j : Ch) (t : Dev nD) (i : ℕ) : BI.Persistent (freed (F := F) j t i) := by unfold freed; infer_instance

/-- Credit `d` tells of all the credits before it. -/
def freedTo (j : Ch) (t : Dev nD) (d : ℕ) : sProp 𝕄 := bigSep (Finset.range d) (freed (F := F) j t)

instance freedTo_storable (j : Ch) (t : Dev nD) (i : ℕ) : BI.Storable (upEmb : UEmb _ 𝕄) (freedTo (F := F) j t i) := by
  unfold freedTo; infer_instance
instance freedTo_persistent (j : Ch) (t : Dev nD) (i : ℕ) : BI.Persistent (freedTo (F := F) j t i) := by unfold freedTo; infer_instance

/-- The hop whose block lands in slot `s` in that slot's round `r`. -/
def hopR (s : Fin 3) (r : ℕ) : ℕ := 3 * r + (s.val + 2) % 3
/-- The hop that sends from slot `s` in that slot's round `r`. -/
def hopS (s : Fin 3) (r : ℕ) : ℕ := 3 * r + s.val

theorem hopS_sl (h : ℕ) : hopS (sl h) (h / 3) = h := by show 3 * (h / 3) + h % 3 = h; omega
theorem hopR_sl (h : ℕ) : hopR (sl (h + 1)) (h / 3) = h := by show 3 * (h / 3) + ((h + 1) % 3 + 2) % 3 = h; omega

def dutiesK : Kind → ℕ → Finset ℕ
  | barK, r => if r = 0 then {0, 1} else ∅
  | sendK _ _, r => if r < 10 then {0} else ∅
  | recvK _ _, r => if r < 10 then {0} else ∅
  | credK _, r => if r = 0 then Finset.range 30 else ∅

def amountK : Kind → ℕ
  | barK => 1
  | sendK _ _ => N
  | recvK _ _ => N
  | credK _ => 1

def payK (I : Ins F) (c : Dev nD) : Kind → ℕ → ℕ → sProp 𝕄
  | barK, _, _ => iprop(emp)
  | sendK j s, r, _ => slotV c j s fullShare.right (cont I j (hopS s r) c)
  | recvK j s, r, _ => slotV c j s fullShare (cont I j (hopR s r) (fromD j.1 c))
  | credK j, _, d => freedTo j (toD j.1 c) (d + 1)

instance payK_storable (I : Ins F) (c : Dev nD) (k : Kind) (r d : ℕ) : BI.Storable (upEmb : UEmb _ 𝕄) (payK I c k r d) :=
  match k with
  | barK => by unfold payK; infer_instance
  | sendK _ _ => by unfold payK; infer_instance
  | recvK _ _ => by unfold payK; infer_instance
  | credK _ => by unfold payK; infer_instance

/-- What the units on the shared semaphores hand over. -/
def Rd (I : Ins F) : Rounds.Schedule (GSem nD τ sig) ℕ 𝕄 where
  duties g r := if g.1.2 = .tc then ((kindOf g.2).elim ∅ fun k => dutiesK k r) else ∅
  unitless _ := False
  amount g _ _ := (kindOf g.2).elim 1 amountK
  payload g r d := (kindOf g.2).elim iprop(emp) fun k => payK I g.1.1 k r d
  amount_pos g _ _ _ := by
    cases h : kindOf g.2 with
    | none => exact Nat.one_pos
    | some k =>
      match k with
      | barK => exact Nat.one_pos
      | sendK _ _ => exact N_pos
      | recvK _ _ => exact N_pos
      | credK _ => exact Nat.one_pos

theorem duties_cell (I : Ins F) (c : Dev nD) (k : Kind) (r : ℕ) : (Rd I).duties (cell c k) r = dutiesK k r := by
  dsimp only [Rd]; rw [if_pos rfl, kindOf_csem]; rfl
theorem amount_cell (I : Ins F) (c : Dev nD) (k : Kind) (r d : ℕ) : (Rd I).amount (cell c k) r d = amountK k := by
  dsimp only [Rd]; rw [kindOf_csem]; rfl
theorem payload_cell (I : Ins F) (c : Dev nD) (k : Kind) (r d : ℕ) : (Rd I).payload (cell c k) r d = payK I c k r d := by
  dsimp only [Rd]; rw [kindOf_csem]; rfl

instance Rd_payload_storable (I : Ins F) (g : GSem nD τ sig) (r : ℕ) (d : ℕ) :
    BI.Storable (upEmb : UEmb _ 𝕄) ((Rd I).payload g r d) := by
  show BI.Storable upEmb ((kindOf g.2).elim iprop(emp) fun k => payK I g.1.1 k r d)
  cases kindOf g.2 with
  | none => show BI.Storable upEmb iprop(emp); infer_instance
  | some k => show BI.Storable upEmb (payK I g.1.1 k r d); infer_instance

theorem duties_later (I : Ins F) (c : Dev nD) (k : Kind) (r : ℕ) (h : 10 ≤ r) : (Rd I).duties (cell c k) r = ∅ := by
  rw [duties_cell]
  match k with
  | barK => exact if_neg (by omega)
  | sendK _ _ => exact if_neg (by omega)
  | recvK _ _ => exact if_neg (by omega)
  | credK _ => exact if_neg (by omega)

theorem expect_cell (I : Ins F) (c : Dev nD) (k : Kind) (r : ℕ) : (Rd I).expect (cell c k) r = (dutiesK k r).card * amountK k := by
  unfold Schedule.expect Schedule.amountOf
  rw [duties_cell, Finset.sum_congr rfl fun d _ => amount_cell I c k r d, Finset.sum_const, smul_eq_mul]

/-! ## The order of the waits -/

def L (g : GSem nD τ sig) : Finset ℕ := if g.1.2 = .tc then Finset.range 30 else ∅
def lvK : Kind → ℕ → ℕ
  | barK, _ => 1
  | sendK _ _, _ => 0
  | recvK _ _, i => 2 * i + 3
  | credK _, i => 2 * i + 2
def lv (g : GSem nD τ sig) (i : ℕ) : ℕ := (kindOf g.2).elim 0 fun k => lvK k i

theorem lv_cell (c : Dev nD) (k : Kind) (i : ℕ) : lv (cell c k) i = lvK k i := by
  unfold lv; rw [kindOf_csem]; rfl
theorem L_of_ne (g : GSem nD τ sig) (h : g.1.2 ≠ .tc) : L g = ∅ := if_neg h
theorem L_tc (c : Dev nD) (sm : SemLoc sig) : L ((c : Thread nD τ), sm) = Finset.range 30 := if_pos rfl

/-- All that is owed lies above level `v`. -/
def Above (v : ℕ) (O : CellTallies nD τ sig ℕ) : Prop := ∀ g i, 0 < O g i → i ∈ L g ∧ v < lv g i

theorem above_zero (v : ℕ) : Above v 0 := fun _ _ h => absurd h (Nat.lt_irrefl 0)
theorem above_add {v : ℕ} {O O' : CellTallies nD τ sig ℕ} (h : Above v O) (h' : Above v O') : Above v (O + O') := fun g i hp => by
  rw [Pi.add_apply, Finsupp.add_apply] at hp
  rcases Nat.eq_zero_or_pos (O g i) with h0 | h0
  · exact h' g i (by omega)
  · exact h g i h0
theorem above_sum {ι : Type} {v : ℕ} {s : Finset ι} {O : ι → CellTallies nD τ sig ℕ} (h : ∀ a ∈ s, Above v (O a)) :
    Above v (∑ a ∈ s, O a) := by
  classical
  induction s using Finset.induction_on with
  | empty => exact above_zero v
  | insert a s ha ih =>
    rw [Finset.sum_insert ha]
    exact above_add (h a (Finset.mem_insert_self _ _)) (ih fun b hb => h b (Finset.mem_insert_of_mem hb))
theorem above_tally {v : ℕ} (c : Dev nD) (k : Kind) {i n : ℕ} (hi : i < 30) (h : v < lvK k i) : Above v (tallyAt (cell c k) i n) := by
  intro g i' hp
  rw [tallyAt_apply] at hp
  by_cases he : g = cell c k ∧ i' = i
  · rw [he.1, he.2, L_tc, lv_cell]; exact ⟨Finset.mem_range.mpr hi, h⟩
  · rw [if_neg he] at hp; exact absurd hp (Nat.lt_irrefl 0)

theorem mayWait_of_above (c : Dev nD) (sm : SemLoc sig) (i : ℕ) (hi : i < 30) {O : CellTallies nD τ sig ℕ}
    (h : Above (lv ((c : Thread nD τ), sm) i) O) : (levAts L lv : sProp 𝕄) ⊢ MayWait (c : Thread nD τ) sm i O :=
  Pipeline.mayWait_of_levAts (by rw [L_tc]; exact Finset.mem_range.mpr hi) h

/-! ## What everybody knows -/

/-- The invariants of the shared semaphores and of the slots, and the order of the waits. -/
def Ctx (I : Ins F) (K : Dev nD × Kind → ℕ) (KS : Key → ℕ) : sProp 𝕄 :=
  iprop((bigSep Finset.univ fun x : Dev nD × Kind => cellInv ER (Rd I) (K x) (cell x.1 x.2))
    ∗ (bigSep Finset.univ fun x : Dev nD × Kind => reached ER (cell x.1 x.2) 0)
    ∗ (bigSep Finset.univ fun x : Key => Release.slotInv ES (KS x) x (slotA x))
    ∗ levAts L lv)

instance Ctx_persistent (I : Ins F) (K : Dev nD × Kind → ℕ) (KS : Key → ℕ) : BI.Persistent (Ctx I K KS) := by
  unfold Ctx; infer_instance

theorem big_at {T : Type} [Fintype T] [DecidableEq T] (Φ : T → sProp 𝕄) (x : T) : bigSep Finset.univ Φ ⊢ Φ x :=
  bigSep_elim (Finset.mem_univ x)

theorem Ctx_cell (I : Ins F) (K : Dev nD × Kind → ℕ) (KS : Key → ℕ) (c : Dev nD) (k : Kind) :
    Ctx I K KS ⊢ cellInv ER (Rd I) (K (c, k)) (cell c k) := by
  unfold Ctx
  refine sep_elim_left.trans ?_
  exact big_at (fun x : Dev nD × Kind => (cellInv ER (Rd I) (K x) (cell x.1 x.2) : sProp 𝕄)) (c, k)
theorem Ctx_reached (I : Ins F) (K : Dev nD × Kind → ℕ) (KS : Key → ℕ) (c : Dev nD) (k : Kind) :
    Ctx I K KS ⊢ reached ER (cell c k) 0 := by
  unfold Ctx
  refine (sep_elim_right.trans sep_elim_left).trans ?_
  exact big_at (fun x : Dev nD × Kind => (reached ER (cell x.1 x.2) 0 : sProp 𝕄)) (c, k)
theorem Ctx_slot (I : Ins F) (K : Dev nD × Kind → ℕ) (KS : Key → ℕ) (x : Key) :
    Ctx I K KS ⊢ Release.slotInv ES (KS x) x (slotA x) := by
  unfold Ctx
  refine (sep_elim_right.trans (sep_elim_right.trans sep_elim_left)).trans ?_
  exact big_at (fun x : Key => (Release.slotInv ES (KS x) x (slotA x) : sProp 𝕄)) x
theorem Ctx_lev (I : Ins F) (K : Dev nD × Kind → ℕ) (KS : Key → ℕ) : Ctx I K KS ⊢ (levAts L lv : sProp 𝕄) := by
  unfold Ctx
  iintro ⟨-, -, -, #H⟩
  iexact H

end Cert.KernelIdeal.Ring

end
-- ==== Proof.Chain.lean ====
/- One step of one chain: waiting for a credit, sending, waiting for a hop, giving a credit. -/
module

public import proofs.«01_k».proof.Proof.Ghost
public import Idealize.SL.BI.BigOpNat
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-! ## Triples -/

variable (I : Ins F) (K : Dev nD × Kind → ℕ) (KS : Key → ℕ) (c : Dev nD)

/-- On device `c`, from `P` (and what everybody knows) the program runs to `Q`. -/
def Tri (P : sProp 𝕄) {α : Type} (e : Pg F α) (Q : α → sProp 𝕄) : Prop :=
  iprop(Ctx I K KS ∗ P) ⊢ wp frame (wpE (defs₀ (F := F)) 𝒱₀ (c : Thread nD τ) none) Set.univ e Q

variable {I K KS c}

theorem tri_bind {P : sProp 𝕄} {α β : Type} {e : Pg F α} {Q : α → sProp 𝕄} {k : α → Pg F β} {R : β → sProp 𝕄}
    (h : Tri I K KS c P e Q) (h' : ∀ a, Tri I K KS c (Q a) (k a) R) : Tri I K KS c P (e >>= k) R := by
  unfold Tri at h h' ⊢
  rw [wp_bind]
  iintro ⟨#HC, HP⟩
  iapply (wp_wand_r frame _ Set.univ)
  isplitl [HP]
  · iapply h; isplitr; · iexact HC
    iexact HP
  · iintro %a HQ
    iapply (h' a); isplitr; · iexact HC
    iexact HQ

theorem tri_fupd {P P' : sProp 𝕄} {α : Type} {e : Pg F α} {Q : α → sProp 𝕄} (hP : iprop(Ctx I K KS ∗ P') ⊢ |={Set.univ}=> P)
    (h : Tri I K KS c P e Q) : Tri I K KS c P' e Q := by
  unfold Tri at h ⊢
  iintro ⟨#HC, HP⟩
  imod hP $$ [HP] with HP
  · isplitr; · iexact HC
    iexact HP
  iapply h; isplitr; · iexact HC
  iexact HP

theorem tri_pre {P P' : sProp 𝕄} {α : Type} {e : Pg F α} {Q : α → sProp 𝕄} (hP : P' ⊢ P)
    (h : Tri I K KS c P e Q) : Tri I K KS c P' e Q := by
  unfold Tri at h ⊢
  exact (sep_mono_right hP).trans h

theorem tri_post {P : sProp 𝕄} {α : Type} {e : Pg F α} {Q Q' : α → sProp 𝕄} (h : Tri I K KS c P e Q) (hQ : ∀ a, Q a ⊢ Q' a) :
    Tri I K KS c P e Q' := by
  unfold Tri at h ⊢
  exact h.trans (wp_mono frame _ Set.univ hQ)

theorem tri_frame {P : sProp 𝕄} {α : Type} {e : Pg F α} {Q : α → sProp 𝕄} (h : Tri I K KS c P e Q) (R : sProp 𝕄) :
    Tri I K KS c iprop(P ∗ R) e (fun a => iprop(Q a ∗ R)) := by
  unfold Tri at h ⊢
  exact sep_assoc.2.trans ((sep_mono_left h).trans (wp_frame_r frame _ Set.univ))

theorem tri_pure {P : sProp 𝕄} {α : Type} {a : α} {Q : α → sProp 𝕄} (h : P ⊢ Q a) : Tri I K KS c P (pure a) Q := by
  unfold Tri
  rw [Prog.pure_eq_ret, wp_ret]
  iintro ⟨-, H⟩
  imodintro
  iapply h; iexact H

variable (c)

/-- What device `c` still owes, whatever it has waited for. -/
def Owe (O : CellTallies nD τ sig ℕ) : sProp 𝕄 := iprop(∃ W, owes (c : Thread nD τ) O W)

/-! ## What a chain holds -/

variable (j : Ch)

/-- What hop `i` is sent with. -/
def SendTok (i : ℕ) : sProp 𝕄 :=
  iprop(dutyTok ER (cell c (sendK j (sl i))) (i / 3) 0 ∗ dutyTok ER (cell (toD j.1 c) (recvK j (sl (i + 1)))) (i / 3) 0
    ∗ Release.writeTok ES (toD j.1 c, j, sl (i + 1)) (i / 3 + 1))
/-- How far the credits have been taken. -/
def CredPos (m : ℕ) : sProp 𝕄 :=
  iprop(∃ S, ⌜S ⊆ Finset.range 30 ∧ m ≤ S.card⌝ ∗ atPos ER (cell c (credK j)) 0 S m
    ∗ bigSep S (fun d => freedTo (F := F) j (toD j.1 c) (d + 1)))
/-- The positions hop `i` is waited for at. -/
def PosAt (i : ℕ) : sProp 𝕄 :=
  iprop(atPos ER (cell c (sendK j (sl i))) (i / 3) ∅ 0 ∗ atPos ER (cell c (recvK j (sl (i + 1)))) (i / 3) ∅ 0)
def ReachAt (i : ℕ) : sProp 𝕄 :=
  iprop(reached ER (cell c (sendK j (sl i))) (i / 3) ∗ reached ER (cell c (recvK j (sl (i + 1)))) (i / 3))
def Pos (w : ℕ) : sProp 𝕄 :=
  iprop(PosAt (F := F) c j w ∗ PosAt (F := F) c j (w + 1) ∗ PosAt (F := F) c j (w + 2) ∗ bigSep (Finset.range (w + 3)) (ReachAt (F := F) c j))
def ReadAt (i : ℕ) : sProp 𝕄 := Release.readerAt ES (c, j, sl (i + 1)) (i / 3)
/-- The credits given. -/
def Given (q : ℕ) : sProp 𝕄 :=
  iprop(ReadAt (F := F) c j q ∗ ReadAt (F := F) c j (q + 1) ∗ ReadAt (F := F) c j (q + 2) ∗ freedTo (F := F) j c q)

instance ReachAt_persistent (i : ℕ) : BI.Persistent (ReachAt (F := F) c j i) := by unfold ReachAt; infer_instance

/-- A chain with `n` hops sent, `m` credits taken, `w` hops waited for and `q` credits given. -/
def Base (n m w q : ℕ) : sProp 𝕄 :=
  iprop((bigSep (Finset.Ico n 30) (SendTok (F := F) c j))
    ∗ (bigSep (Finset.Ico m 30) fun i => cred (tallyAt (cell c (credK j)) i 1)) ∗ CredPos (F := F) c j m
    ∗ (bigSep (Finset.Ico w 30) fun i => cred (tallyAt (cell c (recvK j (sl (i + 1)))) i N)) ∗ Pos (F := F) c j w
    ∗ (bigSep (Finset.Ico q 30) fun i => dutyTok ER (cell (fromD j.1 c) (credK j)) 0 i) ∗ Given (F := F) c j q)

/-- What the chain still owes. -/
def OS (n q : ℕ) : CellTallies nD τ sig ℕ :=
  (∑ i ∈ Finset.Ico n 30, tallyAt (cell (toD j.1 c) (recvK j (sl (i + 1)))) i N)
    + ∑ i ∈ Finset.Ico q 30, tallyAt (cell (fromD j.1 c) (credK j)) i 1

theorem OS_send {n q : ℕ} (h : n < 30) : OS c j n q = OS c j (n + 1) q + tallyAt (cell (toD j.1 c) (recvK j (sl (n + 1)))) n N := by
  unfold OS
  rw [Finset.sum_eq_sum_Ico_succ_bot h, add_assoc, add_comm]
theorem OS_sig {n q : ℕ} (h : q < 30) : OS c j n q = OS c j n (q + 1) + tallyAt (cell (fromD j.1 c) (credK j)) q 1 := by
  unfold OS
  rw [Finset.sum_eq_sum_Ico_succ_bot (a := q) h, add_assoc]
  exact congrArg _ (add_comm _ _)
theorem OS_above {v n q : ℕ} (hn : v < 2 * n + 3) (hq : v < 2 * q + 2) : Above v (OS c j n q) := by
  unfold OS
  refine above_add (above_sum fun i hi => ?_) (above_sum fun i hi => ?_)
  · rw [Finset.mem_Ico] at hi
    exact above_tally _ _ hi.2 (by show v < 2 * i + 3; omega)
  · rw [Finset.mem_Ico] at hi
    exact above_tally _ _ hi.2 (by show v < 2 * i + 2; omega)

/-! ## The four steps -/

variable {c} {j}

/-- A set of `n + 1` numbers has one that is at least `n`. -/
theorem exists_ge {S : Finset ℕ} {n : ℕ} (h : n + 1 ≤ S.card) : ∃ d ∈ S, n ≤ d := by
  by_contra hc
  have hs : S ⊆ Finset.range n := fun d hd => Finset.mem_range.mpr (by
    by_contra hge
    exact hc ⟨d, hd, Nat.le_of_not_lt hge⟩)
  have := Finset.card_le_card hs
  rw [Finset.card_range] at this
  omega

set_option maxRecDepth 20000 in
theorem mayWait_ctx (κ : Kind) {i : ℕ} (hi : i < 30) {O : CellTallies nD τ sig ℕ} (hO : Above (lvK κ i) O) :
    Ctx I K KS ⊢ (MayWait (c : Thread nD τ) (csem κ) i O : sProp 𝕄) := by
  have h : Above (lv (cell c κ) i) O := by rw [lv_cell c κ]; exact hO
  have h2 : (levAts L lv : sProp 𝕄) ⊢ MayWait (c : Thread nD τ) (csem κ) i O := mayWait_of_above c (csem κ) i hi h
  have h1 : Ctx I K KS ⊢ (levAts L lv : sProp 𝕄) := Ctx_lev I K KS
  exact BI.Entails.trans h1 h2

/-- A slot written with what another slot holds. -/
theorem slotV_written (d : Dev nD) (j : Ch) (s s' : Fin 3) {u : FVec F S128x2048 .bf16}
    (f : BufTy.Contents (Elt F) (slotM j.1 j.2 s).view.ty) (fd : BufTy.Contents (Elt F) (slotM j.1 j.2 s').view.ty)
    (hf : (slotM j.1 j.2 s).view.read (Elt F) f = u) :
    ((slotM j.1 j.2 s').view.loc (d : Thread nD τ) ↦[(slotM j.1 j.2 s').view.set]{fullShare}
        ((slotM j.1 j.2 s').view.write (Elt F) fd ((slotM j.1 j.2 s).view.read (Elt F) f) Finset.univ) : sProp 𝕄)
      ⊢ slotV d j s' fullShare u := by
  unfold slotV
  iintro H
  iexists _
  isplitr
  · ipureintro; exact (View.read_write_univ fd _).trans hf
  iexact H

theorem tri_credWait {m : ℕ} (hm : m < 30) {O : CellTallies nD τ sig ℕ} (hO : Above (2 * m + 2) O) :
    Tri I K KS c iprop(cred (tallyAt (cell c (credK j)) m 1) ∗ CredPos (F := F) c j m ∗ Owe (F := F) c O)
      (semWaitWord (credSems j.1 j.2).sem 1#32)
      (fun _ => iprop(CredPos (F := F) c j (m + 1) ∗ freed (F := F) j (toD j.1 c) m ∗ Owe (F := F) c O)) := by
  unfold Tri semWaitWord
  iintro ⟨#HC, Hc, HP, HO⟩
  unfold CredPos Owe
  icases HP with ⟨%S, %hS, Hat, #HS⟩
  icases HO with ⟨%W, HO⟩
  iapply (Rounds.wp_wait 𝒱₀ ER (Rd I) (c : Thread nD τ) none (κ := K (c, credK j)) (k' := 1)
      (wpE_semWait_eq 𝒱₀ (c : Thread nD τ) none Set.univ) (Set.mem_univ _) (sm := csem (credK j)) (cr := Finsupp.single m 1)
      (O := O) (W := W) {(csem (credK j), m)} (R := 0) (m := m) (T := S) (Util.total_single _ _) (image_single_subset _ _ _)) $$ [Hc Hat HO]
  · isplitr; · iapply (Ctx_cell I K KS c (credK j)); iexact HC
    isplitl [Hc]; · iexact Hc
    isplitl [HO]; · iexact HO
    isplitr
    · iapply (mayWait_ctx (credK j) hm hO); iexact HC
    iexact Hat
  iintro %S' ⟨%hS', HO, Hat, Hpay⟩
  rw [wp_ret]
  imodintro
  have hd : (Rd I).duties (cell c (credK j)) 0 = Finset.range 30 := by rw [duties_cell]; rfl
  have he : (Rd I).expect (cell c (credK j)) 0 = 30 := by rw [expect_cell]; rfl
  obtain ⟨h1, h2, h3⟩ := hS'
  rw [hd] at h2 h3
  rw [he] at h3
  have hcard : m + 1 ≤ S'.card := by
    have := Finset.card_sdiff_add_card_eq_card h2
    rw [Finset.card_range] at this
    omega
  ihave #Hp := (show bigSep (S' \ S) (fun d => (Rd I).payload (cell c (credK j)) 0 d) ⊢ bigSep (S' \ S) (fun d => freedTo (F := F) j (toD j.1 c) (d + 1)) from
    bigSep_mono fun d _ => by rw [payload_cell]; exact BI.Entails.refl _) $$ Hpay
  ihave #Hall := (show iprop(bigSep S (fun d => freedTo (F := F) j (toD j.1 c) (d + 1)) ∗ bigSep (S' \ S) (fun d => freedTo (F := F) j (toD j.1 c) (d + 1)))
      ⊢ bigSep S' (fun d => freedTo (F := F) j (toD j.1 c) (d + 1)) from Entails.of_eq (bigSep_sdiff_split h1).symm) $$ []
  · isplitr; · iexact HS
    iexact Hp
  obtain ⟨d, hdS, hdm⟩ := exists_ge hcard
  isplitl [Hat]
  · iexists S'
    isplitr; · ipureintro; exact ⟨h2, hcard⟩
    isplitl [Hat]; · iexact Hat
    iexact Hall
  isplitr
  · ihave #Hd := (show bigSep S' (fun d => freedTo (F := F) j (toD j.1 c) (d + 1)) ⊢ freedTo (F := F) j (toD j.1 c) (d + 1) from bigSep_elim hdS) $$ Hall
    unfold freedTo
    iapply (show bigSep (Finset.range (d + 1)) (freed (F := F) j (toD j.1 c)) ⊢ freed (F := F) j (toD j.1 c) m from
      bigSep_elim (Finset.mem_range.mpr (by omega)))
    iexact Hd
  · iexists _; iexact HO

theorem tri_send {n : ℕ} (hn : n < 30) {O₀ O : CellTallies nD τ sig ℕ} (u : FVec F S128x2048 .bf16) (hu : u = cont I j n c)
    (hO : O₀ = O + tallyAt (cell (toD j.1 c) (recvK j (sl (n + 1)))) n N) :
    Tri I K KS c iprop(slotV c j (sl n) fullShare u ∗ SendTok (F := F) c j n ∗ ReachAt (F := F) c j n ∗ freed (F := F) j (toD j.1 c) n ∗ Owe (F := F) c O₀)
      (send (toD j.1 c) j.1 j.2 (sl n) (sl (n + 1)))
      (fun _ => iprop(slotV c j (sl n) fullShare.left u ∗ cred (tallyAt (cell c (sendK j (sl n))) n N) ∗ Owe (F := F) c O)) := by
  unfold Tri send Prog.lift
  unfold slotV SendTok ReachAt freed Owe
  iintro ⟨#HC, ⟨%f, %hf, Hs⟩, ⟨Ht1, Ht2, Hw⟩, ⟨#Hr1, -⟩, ⟨#Hrel, #Hr2⟩, ⟨%W, HO⟩⟩
  ihave Hs := (pointsTo_share (PosShare.mem_left_op_right fullShare)).1 $$ Hs
  icases Hs with ⟨Hl, Hs⟩
  imod (Release.slot_take ES (Set.mem_univ (KS (toD j.1 c, j, sl (n + 1)))) (k := (toD j.1 c, j, sl (n + 1))) (S := slotA (toD j.1 c, j, sl (n + 1))) (n / 3 + 1)) $$ [Hw] with Hd
  · isplitr; · iapply (Ctx_slot I K KS); iexact HC
    isplitr; · iexact Hrel
    iexact Hw
  unfold slotA
  icases Hd with ⟨%fd, Hd⟩
  have h10 : n / 3 < 10 := by omega
  iapply (Rounds.wp_send_pointsTo 𝒱₀ ER (Rd I) (c : Thread nD τ) none (c' := (toD j.1 c : Thread nD τ)) (κ₁ := K (c, sendK j (sl n))) (κ₂ := K (toD j.1 c, recvK j (sl (n + 1))))
    (src := slotM j.1 j.2 (sl n)) (dst := slotM j.1 j.2 (sl (n + 1))) (sS := csem (sendK j (sl n))) (sem := csem (recvK j (sl (n + 1))))
    (r₁ := n / 3) (r₂ := n / 3) (d₁ := 0) (d₂ := 0) (fd := fd)
    (by rw [duties_cell]; show 0 ∈ (if n / 3 < 10 then ({0} : Finset ℕ) else ∅); rw [if_pos h10]; exact Finset.mem_singleton_self _)
    (by rw [duties_cell]; show 0 ∈ (if n / 3 < 10 then ({0} : Finset ℕ) else ∅); rw [if_pos h10]; exact Finset.mem_singleton_self _)
    n n N (slot_credit j.1 j.2 (sl (n + 1))) (amount_cell I c (sendK j (sl n)) _ _) (amount_cell I (toD j.1 c) (recvK j (sl (n + 1))) _ _) O hO (W := W)
    (by
      rw [payload_cell]
      show _ ⊢ slotV c j (sl n) fullShare.right (cont I j (hopS (sl n) (n / 3)) c)
      rw [hopS_sl, ← hu]
      unfold slotV
      iintro H; iexists f; isplitr; · ipureintro; exact hf
      iexact H)
    (by
      rw [payload_cell]
      show _ ⊢ slotV (toD j.1 c) j (sl (n + 1)) fullShare (cont I j (hopR (sl (n + 1)) (n / 3)) (fromD j.1 (toD j.1 c)))
      rw [hopR_sl, from_to, ← hu]
      exact slotV_written (toD j.1 c) j (sl n) (sl (n + 1)) f fd hf)) $$ [Hs Hd HO Ht1 Ht2]
  · isplitr; · iapply (Ctx_cell I K KS c (sendK j (sl n))); iexact HC
    isplitr; · iapply (Ctx_cell I K KS (toD j.1 c) (recvK j (sl (n + 1)))); iexact HC
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  isplitl [Hl]
  · iexists f; isplitr; · ipureintro; exact hf
    iexact Hl
  isplitl [Hc]; · iexact Hc
  iexists W; iexact HO

/-- Two halves of a slot are the slot. -/
theorem slotV_halves (c : Dev nD) (j : Ch) (s : Fin 3) (u u' : FVec F S128x2048 .bf16) :
    iprop(slotV c j s fullShare.left u ∗ slotV c j s fullShare.right u') ⊢ slotA (F := F) (c, j, s) := by
  unfold slotV slotA
  iintro ⟨⟨%f, -, Hl⟩, ⟨%g, -, Hr⟩⟩
  ihave %h := (pointsTo_agree (ℓ := (slotM j.1 j.2 s).view.loc (c : Thread nD τ)) (f := f) (g := g)) $$ [Hl Hr]
  · isplitl [Hl] <;> iassumption
  ihave Hr := (Entails.of_eq (pointsTo_congr (ℓ := (slotM j.1 j.2 s).view.loc (c : Thread nD τ)) (q := fullShare.right) (f := g) (g := f)
      fun i hi => (h i (Finset.mem_inter.mpr ⟨hi, hi⟩)).1.symm)) $$ Hr
  iexists f
  iapply (pointsTo_share (PosShare.mem_left_op_right fullShare)).2
  isplitl [Hl] <;> iassumption

/-- Waiting for all of one round of a semaphore that counts transfers. -/
theorem tri_waitDma (κ : Kind) {sem : DmaSem sig} (hs : csem κ = .dma sem) {sp sp' : Space} {s s' : Shape} {e e' : EltTy}
    {src : Memref sig .tc sp' s' e'} {dst : Memref sig .tc sp s e} {h₁ : src.view.WordExact} {h₂ : dst.view.WordExact}
    (hN : dst.view.dmaCredit = N) (r i : ℕ) (hd : dutiesK κ r = {0}) (hk : amountK κ = N) (hi : i < 30)
    {O : CellTallies nD τ sig ℕ} (hO : Above (lvK κ i) O) :
    Tri I K KS c iprop(cred (tallyAt (cell c κ) i N) ∗ atPos ER (cell c κ) r ∅ 0 ∗ Owe (F := F) c O)
      (Prog.lift (.waitDma2 sem src dst h₁ h₂))
      (fun _ => iprop(atPos ER (cell c κ) (r + 1) ∅ 0 ∗ reached ER (cell c κ) (r + 1) ∗ payK I c κ r 0 ∗ Owe (F := F) c O)) := by
  unfold Tri Prog.lift Owe
  iintro ⟨#HC, Hc, Hat, ⟨%W, HO⟩⟩
  iapply (Rounds.wp_wait_rest_token 𝒱₀ ER (Rd I) (c : Thread nD τ) none (κ := K (c, κ)) (sm := csem κ) (k' := N)
      (fun Kt => by rw [hs, ← hN]; exact wpE_waitDma2_eq 𝒱₀ (c : Thread nD τ) none Set.univ Kt) (Set.mem_univ _) i
      (O := O) (W := W) (R := r) (m := 0) (T := ∅)
      (by rw [expect_cell I c κ r, hd, hk]; simp)) $$ [Hc Hat HO]
  · isplitr; · iapply (Ctx_cell I K KS c κ); iexact HC
    isplitl [Hc]; · iexact Hc
    isplitl [HO]; · iexact HO
    isplitr
    · iapply (mayWait_ctx κ hi hO); iexact HC
    iexact Hat
  iintro ⟨HO, Hat, Hr, Hpay⟩
  rw [wp_ret]
  imodintro
  isplitl [Hat]; · iexact Hat
  isplitl [Hr]; · iexact Hr
  isplitl [Hpay]
  · iapply (show bigSep ((Rd I).duties (cell c κ) r \ ∅) (fun d => (Rd I).payload (cell c κ) r d) ⊢ payK I c κ r 0 from by
      rw [Finset.sdiff_empty, duties_cell, hd]
      exact (bigSep_elim (Finset.mem_singleton_self 0)).trans (Entails.of_eq (payload_cell I c κ r 0)))
    iexact Hpay
  iexists _; iexact HO

theorem tri_waitHop {w : ℕ} (hw : w < 30) {O : CellTallies nD τ sig ℕ} (hO : Above (2 * w + 3) O) (hO' : Above 0 O)
    (u : FVec F S128x2048 .bf16) :
    Tri I K KS c iprop(cred (tallyAt (cell c (sendK j (sl w))) w N) ∗ cred (tallyAt (cell c (recvK j (sl (w + 1)))) w N) ∗ PosAt (F := F) c j w
        ∗ slotV c j (sl w) fullShare.left u ∗ Owe (F := F) c O)
      (waitHop j.1 j.2 (sl w) (sl (w + 1)))
      (fun _ => iprop(PosAt (F := F) c j (w + 3) ∗ ReachAt (F := F) c j (w + 3) ∗ slotA (F := F) (c, j, sl w)
        ∗ slotV c j (sl (w + 1)) fullShare (cont I j w (fromD j.1 c)) ∗ Owe (F := F) c O)) := by
  have h10 : w / 3 < 10 := by omega
  have hr : (w + 3) / 3 = w / 3 + 1 := by omega
  unfold waitHop
  refine tri_bind (Q := fun _ => iprop((atPos ER (cell c (sendK j (sl w))) (w / 3 + 1) ∅ 0 ∗ reached ER (cell c (sendK j (sl w))) (w / 3 + 1)
      ∗ payK I c (sendK j (sl w)) (w / 3) 0 ∗ Owe (F := F) c O) ∗ (cred (tallyAt (cell c (recvK j (sl (w + 1)))) w N)
      ∗ atPos ER (cell c (recvK j (sl (w + 1)))) (w / 3) ∅ 0 ∗ slotV c j (sl w) fullShare.left u))) ?_ fun _ => ?_
  · refine tri_pre ?_ (tri_frame (tri_waitDma (sendK j (sl w)) rfl (slot_credit _ _ _) (w / 3) w (if_pos h10) rfl hw hO') _)
    unfold PosAt
    iintro ⟨Hc, Hc', ⟨Ha, Ha'⟩, Hs, HO⟩
    isplitl [Hc Ha HO]
    · isplitl [Hc]; · iexact Hc
      isplitl [Ha]; · iexact Ha
      iexact HO
    isplitl [Hc']; · iexact Hc'
    isplitl [Ha']; · iexact Ha'
    iexact Hs
  · refine tri_pre (P := iprop((cred (tallyAt (cell c (recvK j (sl (w + 1)))) w N) ∗ atPos ER (cell c (recvK j (sl (w + 1)))) (w / 3) ∅ 0 ∗ Owe (F := F) c O)
        ∗ (atPos ER (cell c (sendK j (sl w))) (w / 3 + 1) ∅ 0 ∗ reached ER (cell c (sendK j (sl w))) (w / 3 + 1)
      ∗ payK I c (sendK j (sl w)) (w / 3) 0 ∗ slotV c j (sl w) fullShare.left u))) ?_ (tri_post
        (tri_frame (tri_waitDma (recvK j (sl (w + 1))) rfl (slot_credit _ _ _) (w / 3) w (if_pos h10) rfl hw hO) _) fun _ => ?_)
    · iintro ⟨⟨Ha, Hr, Hp, HO⟩, Hc, Ha', Hs⟩
      isplitl [Hc Ha' HO]
      · isplitl [Hc]; · iexact Hc
        isplitl [Ha']; · iexact Ha'
        iexact HO
      isplitl [Ha]; · iexact Ha
      isplitl [Hr]; · iexact Hr
      isplitl [Hp]; · iexact Hp
      iexact Hs
    · unfold PosAt ReachAt
      rw [show w + 3 + 1 = w + 1 + 3 from rfl, sl_add3, sl_add3, hr]
      iintro ⟨⟨Ha', #Hr', Hp', HO⟩, Ha, #Hr, Hp, Hs⟩
      isplitl [Ha Ha']
      · isplitl [Ha]; · iexact Ha
        iexact Ha'
      isplitr
      · isplitr; · iexact Hr
        iexact Hr'
      isplitl [Hp Hs]
      · iapply (slotV_halves c j (sl w) u (cont I j (hopS (sl w) (w / 3)) c))
        isplitl [Hs]; · iexact Hs
        iapply (show payK I c (sendK j (sl w)) (w / 3) 0 ⊢ slotV c j (sl w) fullShare.right (cont I j (hopS (sl w) (w / 3)) c) from BI.Entails.refl _)
        iexact Hp
      isplitl [Hp']
      · iapply (show payK I c (recvK j (sl (w + 1))) (w / 3) 0 ⊢ slotV c j (sl (w + 1)) fullShare (cont I j w (fromD j.1 c)) from by
          show slotV c j (sl (w + 1)) fullShare (cont I j (hopR (sl (w + 1)) (w / 3)) (fromD j.1 c)) ⊢ _
          rw [hopR_sl])
        iexact Hp'
      iexact HO

theorem tri_signal {q : ℕ} (hq : q < 30) {O₀ O : CellTallies nD τ sig ℕ} (hO : O₀ = O + tallyAt (cell (fromD j.1 c) (credK j)) q 1) :
    Tri I K KS c iprop(slotA (F := F) (c, j, sl (q + 1)) ∗ ReadAt (F := F) c j q ∗ freedTo (F := F) j c q ∗ dutyTok ER (cell (fromD j.1 c) (credK j)) 0 q
        ∗ ReachAt (F := F) c j q ∗ Owe (F := F) c O₀)
      (semSignalWord (fromD j.1 c) (credSems j.1 j.2).sem 1#32)
      (fun _ => iprop(ReadAt (F := F) c j (q + 3) ∗ freedTo (F := F) j c (q + 1) ∗ Owe (F := F) c O)) := by
  unfold Tri semSignalWord Owe ReadAt
  iintro ⟨#HC, Hs, Hrd, #Hf, Ht, #Hr, ⟨%W, HO⟩⟩
  unfold ReachAt
  icases Hr with ⟨-, #Hr⟩
  imod (Release.slot_release ES (Set.mem_univ (KS (c, j, sl (q + 1)))) (slotA_excl (c, j, sl (q + 1))) (q / 3)) $$ [Hs Hrd] with ⟨Hrd, #Hrel⟩
  · isplitr; · iapply (Ctx_slot I K KS (c, j, sl (q + 1))); iexact HC
    isplitl [Hrd]; · iexact Hrd
    iexact Hs
  ihave #Hf' := (show iprop(freedTo (F := F) j c q ∗ freed (F := F) j c q) ⊢ freedTo (F := F) j c (q + 1) from by
    unfold freedTo; rw [bigSep_range_succ]; exact sep_comm.1) $$ []
  · isplitr; · iexact Hf
    unfold freed
    isplitr; · iexact Hrel
    iexact Hr
  iapply (Rounds.wp_signal 𝒱₀ ER (Rd I) (c : Thread nD τ) none (dst := (fromD j.1 c : Thread nD τ)) (sem := (credSems j.1 j.2).sem)
      (κ := K (fromD j.1 c, credK j)) (r := 0) (d := q)
      (by
        have : q ∈ (Rd I).duties (cell (fromD j.1 c) (credK j)) 0 := by rw [duties_cell]; exact Finset.mem_range.mpr hq
        exact this)
      ((amount_cell I (fromD j.1 c) (credK j) 0 q).trans ((show amountK (credK j) = 1 from rfl).trans (by decide))) q O hO (W := W)) $$ [HO Ht]
  · isplitr; · iapply (Ctx_cell I K KS (fromD j.1 c) (credK j)); iexact HC
    isplitl [HO]; · iexact HO
    isplitl [Ht]; · iexact Ht
    isplitr
    · iapply (show freedTo (F := F) j c (q + 1) ⊢ (Rd I).payload ((fromD j.1 c : Thread nD τ), .reg (credSems j.1 j.2).sem) 0 q from by
        refine BI.Entails.trans ?_ (Entails.of_eq (payload_cell I (fromD j.1 c) (credK j) 0 q).symm)
        show _ ⊢ freedTo (F := F) j (toD j.1 (fromD j.1 c)) (q + 1)
        rw [to_from])
      iexact Hf'
    iapply (Ctx_reached I K KS (fromD j.1 c) (credK j)); iexact HC
  iintro HO
  rw [wp_ret]
  imodintro
  isplitl [Hrd]
  · rw [show q + 3 + 1 = q + 1 + 3 from rfl, sl_add3, show (q + 3) / 3 = q / 3 + 1 by omega]
    iexact Hrd
  isplitr; · iexact Hf'
  iexists W; iexact HO

end Cert.KernelIdeal.Ring

end
-- ==== Proof.Steps.lean ====
/- A chain's stages, and the steps between them. -/
module

public import proofs.«01_k».proof.Proof.Chain

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {I : Ins F} {K : Dev nD × Kind → ℕ} {KS : Key → ℕ} {c : Dev nD}

theorem tri_conseq {P P' R : sProp 𝕄} {α : Type} {e : Pg F α} {Q Q' : α → sProp 𝕄} (hP : P' ⊢ iprop(P ∗ R)) (h : Tri I K KS c P e Q)
    (hQ : ∀ a, iprop(Q a ∗ R) ⊢ Q' a) : Tri I K KS c P' e Q' :=
  tri_pre hP (tri_post (tri_frame h R) hQ)

theorem tri_given {φ : Prop} {P : sProp 𝕄} {α : Type} {e : Pg F α} {Q : α → sProp 𝕄} (h : φ → Tri I K KS c P e Q) :
    Tri I K KS c iprop(⌜φ⌝ ∗ P) e Q := by
  unfold Tri at h ⊢
  iintro ⟨#HC, %hφ, HP⟩
  iapply (h hφ)
  isplitr; · iexact HC
  iexact HP

theorem tri_some {T : Type} {P : T → sProp 𝕄} {α : Type} {e : Pg F α} {Q : α → sProp 𝕄} (h : ∀ t, Tri I K KS c (P t) e Q) :
    Tri I K KS c iprop(∃ t, P t) e Q := by
  unfold Tri at h ⊢
  iintro ⟨#HC, %t, HP⟩
  iapply (h t)
  isplitr; · iexact HC
  iexact HP

/-! ## Loads and stores of a slot -/

theorem tri_loadSlot (j : Ch) (s : Fin 3) (q : PosShare TreeShare) (u : FVec F S128x2048 .bf16) :
    Tri I K KS c (slotV c j s q u) (loadSlot j.1 j.2 s) (fun v => iprop(⌜down v = u⌝ ∗ slotV c j s q u)) := by
  unfold Tri loadSlot Prog.lift slotV
  rw [slot_set]
  iintro ⟨-, %f, %hf, H⟩
  iapply (wp_load_rect 𝒱₀ (c : Thread nD τ) none Set.univ (m := commM j.1 j.2) (r := slotR s) (q := q) (f := f) Finset.Subset.rfl) $$ [H]
  · iexact H
  iintro H
  rw [wp_ret]
  imodintro
  isplitr
  · ipureintro; exact hf
  iexists f
  isplitr
  · ipureintro; exact hf
  iexact H

theorem tri_loadSlotA (j : Ch) (s : Fin 3) :
    Tri I K KS c (slotA (F := F) (c, j, s)) (loadSlot j.1 j.2 s) (fun _ => slotA (F := F) (c, j, s)) := by
  have e : slotA (F := F) (c, j, s) ⊢ iprop(∃ u, slotV c j s fullShare u) := by
    unfold slotA slotV
    iintro ⟨%f, H⟩
    iexists _; iexists f
    isplitr; · ipureintro; rfl
    iexact H
  exact tri_pre e (tri_some fun u => tri_post (tri_loadSlot j s fullShare u) fun v => sep_elim_right.trans (slotV_any c j s u))

theorem tri_storeSlot (j : Ch) (s : Fin 3) (u : FVec F S128x2048 .bf16) :
    Tri I K KS c (slotA (F := F) (c, j, s)) (storeSlot j.1 j.2 s (up u)) (fun _ => slotV c j s fullShare u) := by
  unfold Tri storeSlot Prog.lift slotV slotA
  dsimp only
  rw [slot_set]
  iintro ⟨-, %f, H⟩
  iapply (wp_store 𝒱₀ (c : Thread nD τ) none Set.univ (m := commM j.1 j.2) (r := slotR s) (w := up u) (Mk := Finset.univ) (f := f)
    (by rw [View.setOn_univ])) $$ [H]
  · iexact H
  iintro H
  rw [wp_ret]
  imodintro
  iexists _
  isplitr
  · ipureintro; exact slot_read_store j.1 j.2 s f u
  iexact H

theorem tri_initPart (j : Ch) (p : FVec F S512x2048 .bf16) :
    Tri I K KS c (slotA (F := F) (c, j, 0)) (initPart j.1 j.2 p) (fun _ => slotV c j 0 fullShare (rows j.2 p)) := by
  unfold initPart
  exact tri_bind (tri_loadSlotA j 0) fun _ => tri_storeSlot j 0 _

theorem tri_accum (j : Ch) (d : Fin 3) (u : FVec F S128x2048 .bf16) (p : FVec F S512x2048 .bf16) :
    Tri I K KS c (slotV c j d fullShare u) (accum j.1 j.2 d p) (fun _ => slotV c j d fullShare (addf u (rows j.2 p))) := by
  unfold accum
  refine tri_bind (tri_loadSlot j d fullShare u) fun v => tri_given fun hv => ?_
  refine tri_bind (tri_post (tri_loadSlot j d fullShare u) fun _ => sep_elim_right) fun _ => ?_
  rw [hv]
  exact tri_pre (slotV_any c j d u) (tri_storeSlot j d _)

/-! ## The stages of a chain -/

/-- How many credits have been given when hop `h` starts. -/
def Qc (h : ℕ) : ℕ := min (h + 2) 30

theorem Qc_succ {h : ℕ} (hh : h < 28) : Qc (h + 1) = h + 3 := by unfold Qc; omega
theorem Qc_eq {h : ℕ} (hh : h < 28) : Qc h = h + 2 := by unfold Qc; omega

inductive Ph
  | init | filled | sig1
  | rdy (h : ℕ) | arm (h : ℕ) | fly (h : ℕ) | got (h : ℕ) | raw (h : ℕ)

/-- Hops sent. -/
def Ph.n : Ph → ℕ
  | .init => 0 | .filled => 0 | .sig1 => 0
  | .rdy h => h | .arm h => h | .fly h => h + 1 | .got h => h + 1 | .raw h => h + 1
/-- Credits given. -/
def Ph.q : Ph → ℕ
  | .init => 0 | .filled => 0 | .sig1 => 1
  | .rdy h => Qc h | .arm h => Qc h | .fly h => Qc h | .got h => Qc h | .raw h => Qc (h + 1)

variable (I c)

/-- The slot that is kept back at the last hop. -/
def Ext (j : Ch) (h : ℕ) : sProp 𝕄 := if h = 29 then slotA (F := F) (c, j, sl 28) else iprop(emp)

def CS (j : Ch) : Ph → sProp 𝕄
  | .init => iprop(Base (F := F) c j 0 0 0 0 ∗ slotA (F := F) (c, j, 0) ∗ slotA (F := F) (c, j, 1) ∗ slotA (F := F) (c, j, 2))
  | .filled => iprop(Base (F := F) c j 0 0 0 0 ∗ slotV c j 0 fullShare (cont I j 0 c) ∗ slotA (F := F) (c, j, 1) ∗ slotA (F := F) (c, j, 2))
  | .sig1 => iprop(Base (F := F) c j 0 0 0 1 ∗ slotV c j 0 fullShare (cont I j 0 c) ∗ slotA (F := F) (c, j, 2))
  | .rdy h => iprop(Base (F := F) c j h h h (Qc h) ∗ slotV c j (sl h) fullShare (cont I j h c) ∗ Ext (F := F) c j h)
  | .arm h => iprop(Base (F := F) c j h (h + 1) h (Qc h) ∗ slotV c j (sl h) fullShare (cont I j h c) ∗ freed (F := F) j (toD j.1 c) h ∗ Ext (F := F) c j h)
  | .fly h => iprop(Base (F := F) c j (h + 1) (h + 1) h (Qc h) ∗ slotV c j (sl h) fullShare.left (cont I j h c)
      ∗ cred (tallyAt (cell c (sendK j (sl h))) h N) ∗ Ext (F := F) c j h)
  | .got h => iprop(Base (F := F) c j (h + 1) (h + 1) (h + 1) (Qc h) ∗ slotV c j (sl (h + 1)) fullShare (cont I j h (fromD j.1 c))
      ∗ slotA (F := F) (c, j, sl h) ∗ Ext (F := F) c j h)
  | .raw h => iprop(Base (F := F) c j (h + 1) (h + 1) (h + 1) (Qc (h + 1)) ∗ slotV c j (sl (h + 1)) fullShare (cont I j h (fromD j.1 c)))

def OSp (j : Ch) (p : Ph) : CellTallies nD τ sig ℕ := OS c j p.n p.q

/-- A step of chain `j`, whatever else is owed. -/
def Stp (K : Dev nD × Kind → ℕ) (KS : Key → ℕ) (O : CellTallies nD τ sig ℕ) (j : Ch) (p : Ph) (e : Pg F PUnit) (p' : Ph) : Prop :=
  Tri I K KS c iprop(CS I c j p ∗ Owe (F := F) c (O + OSp c j p)) e (fun _ => iprop(CS I c j p' ∗ Owe (F := F) c (O + OSp c j p')))

variable {I c} {O : CellTallies nD τ sig ℕ} {j : Ch}

theorem stp_init : Stp I c K KS O j .init (initPart j.1 j.2 (prodAt I j.1 c 0)) .filled := by
  unfold Stp
  refine tri_conseq (R := iprop(Base (F := F) c j 0 0 0 0 ∗ slotA (F := F) (c, j, 1) ∗ slotA (F := F) (c, j, 2) ∗ Owe (F := F) c (O + OSp c j .init)))
    ?_ (tri_initPart j (prodAt I j.1 c 0)) fun _ => ?_
  · dsimp only [CS]
    iintro ⟨⟨HB, H0, H1, H2⟩, HO⟩
    isplitl [H0]; · iexact H0
    isplitl [HB]; · iexact HB
    isplitl [H1]; · iexact H1
    isplitl [H2]; · iexact H2
    iexact HO
  · rw [show OSp c j .filled = OSp c j .init from rfl]
    dsimp only [CS]
    rw [show cont I j 0 c = rows j.2 (prodAt I j.1 c 0) from by rw [cont]]
    iintro ⟨H0, HB, H1, H2, HO⟩
    isplitr [HO]
    · isplitl [HB]; · iexact HB
      isplitl [H0]; · iexact H0
      isplitl [H1]; · iexact H1
      iexact H2
    iexact HO

/-- A reached round, out of those known. -/
theorem pos_reach (c : Dev nD) (j : Ch) {i w : ℕ} (h : i < w + 3) : Pos (F := F) c j w ⊢ ReachAt (F := F) c j i := by
  unfold Pos
  refine (sep_elim_right.trans (sep_elim_right.trans sep_elim_right)).trans ?_
  exact bigSep_elim (Finset.mem_range.mpr h)

/-- Giving credit `q`, once the slot of hop `q` is free. -/
theorem tri_give {n m w q : ℕ} (hq : q < 30) (hw : q < w + 3) {O₀ O₁ : CellTallies nD τ sig ℕ}
    (hO : O₀ = O₁ + tallyAt (cell (fromD j.1 c) (credK j)) q 1) :
    Tri I K KS c iprop(Base (F := F) c j n m w q ∗ slotA (F := F) (c, j, sl (q + 1)) ∗ Owe (F := F) c O₀)
      (semSignalWord (fromD j.1 c) (credSems j.1 j.2).sem 1#32)
      (fun _ => iprop(Base (F := F) c j n m w (q + 1) ∗ Owe (F := F) c O₁)) := by
  refine tri_conseq (R := iprop((bigSep (Finset.Ico n 30) (SendTok (F := F) c j))
    ∗ (bigSep (Finset.Ico m 30) fun i => cred (tallyAt (cell c (credK j)) i 1)) ∗ CredPos (F := F) c j m
    ∗ (bigSep (Finset.Ico w 30) fun i => cred (tallyAt (cell c (recvK j (sl (i + 1)))) i N)) ∗ Pos (F := F) c j w
    ∗ (bigSep (Finset.Ico (q + 1) 30) fun i => dutyTok ER (cell (fromD j.1 c) (credK j)) 0 i)
    ∗ ReadAt (F := F) c j (q + 1) ∗ ReadAt (F := F) c j (q + 2)))
    ?_ (tri_signal hq hO) fun _ => ?_
  · unfold Base Given
    rw [bigSep_Ico_succ_bot hq]
    iintro ⟨⟨H1, H2, H3, H4, H5, ⟨Ht, H6⟩, ⟨Hr, Hr1, Hr2, Hf⟩⟩, Hs, HO⟩
    ihave #Hx := (show Pos (F := F) c j w ⊢ ReachAt (F := F) c j q from pos_reach c j hw) $$ H5
    isplitl [Hs Hr Hf Ht HO]
    · isplitl [Hs]; · iexact Hs
      isplitl [Hr]; · iexact Hr
      isplitl [Hf]; · iexact Hf
      isplitl [Ht]; · iexact Ht
      isplitr; · iexact Hx
      iexact HO
    isplitl [H1]; · iexact H1
    isplitl [H2]; · iexact H2
    isplitl [H3]; · iexact H3
    isplitl [H4]; · iexact H4
    isplitl [H5]; · iexact H5
    isplitl [H6]; · iexact H6
    isplitl [Hr1]; · iexact Hr1
    iexact Hr2
  · unfold Base Given
    iintro ⟨⟨Hr3, Hf, HO⟩, H1, H2, H3, H4, H5, H6, Hr1, Hr2⟩
    isplitr [HO]
    · isplitl [H1]; · iexact H1
      isplitl [H2]; · iexact H2
      isplitl [H3]; · iexact H3
      isplitl [H4]; · iexact H4
      isplitl [H5]; · iexact H5
      isplitl [H6]; · iexact H6
      isplitl [Hr1]; · iexact Hr1
      isplitl [Hr2]; · iexact Hr2
      isplitl [Hr3]; · iexact Hr3
      iexact Hf
    iexact HO

theorem OS_sig' (n q : ℕ) (h : q < 30) : O + OS c j n q = (O + OS c j n (q + 1)) + tallyAt (cell (fromD j.1 c) (credK j)) q 1 := by
  rw [OS_sig c j h, add_assoc]

theorem stp_sig0 : Stp I c K KS O j .filled (semSignalWord (fromD j.1 c) (credSems j.1 j.2).sem 1#32) .sig1 := by
  unfold Stp
  refine tri_conseq (R := iprop(slotV c j 0 fullShare (cont I j 0 c) ∗ slotA (F := F) (c, j, 2)))
    ?_ (tri_give (n := 0) (m := 0) (w := 0) (q := 0) (by decide) (by decide) (OS_sig' (O := O) (c := c) (j := j) 0 0 (by decide))) fun _ => ?_
  · dsimp only [CS]
    rw [show (sl (0 + 1)) = 1 from rfl, show OSp c j .filled = OS c j 0 0 from rfl]
    iintro ⟨⟨HB, H0, H1, H2⟩, HO⟩
    isplitr [H0 H2]
    · isplitl [HB]; · iexact HB
      isplitl [H1]; · iexact H1
      iexact HO
    isplitl [H0]; · iexact H0
    iexact H2
  · dsimp only [CS]
    rw [show OSp c j .sig1 = OS c j 0 (0 + 1) from rfl]
    iintro ⟨⟨HB, HO⟩, H0, H2⟩
    isplitr [HO]
    · isplitl [HB]; · iexact HB
      isplitl [H0]; · iexact H0
      iexact H2
    iexact HO

theorem stp_sig1 : Stp I c K KS O j .sig1 (semSignalWord (fromD j.1 c) (credSems j.1 j.2).sem 1#32) (.rdy 0) := by
  unfold Stp
  refine tri_conseq (R := iprop(slotV c j 0 fullShare (cont I j 0 c)))
    ?_ (tri_give (n := 0) (m := 0) (w := 0) (q := 1) (by decide) (by decide) (OS_sig' (O := O) (c := c) (j := j) 0 1 (by decide))) fun _ => ?_
  · dsimp only [CS]
    rw [show (sl (1 + 1)) = 2 from rfl, show OSp c j .sig1 = OS c j 0 1 from rfl]
    iintro ⟨⟨HB, H0, H2⟩, HO⟩
    isplitr [H0]
    · isplitl [HB]; · iexact HB
      isplitl [H2]; · iexact H2
      iexact HO
    iexact H0
  · dsimp only [CS]; unfold Ext
    rw [show OSp c j (.rdy 0) = OS c j 0 (1 + 1) from rfl, if_neg (by decide), show Qc 0 = 1 + 1 from rfl, show sl 0 = 0 from rfl]
    iintro ⟨⟨HB, HO⟩, H0⟩
    isplitr [HO]
    · isplitl [HB]; · iexact HB
      isplitl [H0]; · iexact H0
      iempintro
    iexact HO

theorem stp_sig {h : ℕ} (hh : h < 28) : Stp I c K KS O j (.got h) (semSignalWord (fromD j.1 c) (credSems j.1 j.2).sem 1#32) (.raw h) := by
  unfold Stp
  refine tri_conseq (R := slotV c j (sl (h + 1)) fullShare (cont I j h (fromD j.1 c)))
    ?_ (tri_give (n := h + 1) (m := h + 1) (w := h + 1) (q := h + 2) (by omega) (by omega) (OS_sig' (O := O) (c := c) (j := j) (h + 1) (h + 2) (by omega))) fun _ => ?_
  · dsimp only [CS]; unfold Ext
    rw [show OSp c j (.got h) = OS c j (h + 1) (Qc h) from rfl, if_neg (by omega), Qc_eq hh, show h + 2 + 1 = h + 3 from rfl, sl_add3]
    iintro ⟨⟨HB, H0, H2, -⟩, HO⟩
    isplitr [H0]
    · isplitl [HB]; · iexact HB
      isplitl [H2]; · iexact H2
      iexact HO
    iexact H0
  · dsimp only [CS]
    rw [show OSp c j (.raw h) = OS c j (h + 1) (Qc (h + 1)) from rfl, Qc_succ hh]
    iintro ⟨⟨HB, HO⟩, H0⟩
    isplitr [HO]
    · isplitl [HB]; · iexact HB
      iexact H0
    iexact HO

theorem stp_arm {h : ℕ} (hh : h < 30) (hA : Above (2 * h + 2) (O + OSp c j (.rdy h))) :
    Stp I c K KS O j (.rdy h) (semWaitWord (credSems j.1 j.2).sem 1#32) (.arm h) := by
  unfold Stp
  refine tri_conseq (R := iprop((bigSep (Finset.Ico h 30) (SendTok (F := F) c j))
    ∗ (bigSep (Finset.Ico (h + 1) 30) fun i => cred (tallyAt (cell c (credK j)) i 1))
    ∗ (bigSep (Finset.Ico h 30) fun i => cred (tallyAt (cell c (recvK j (sl (i + 1)))) i N)) ∗ Pos (F := F) c j h
    ∗ (bigSep (Finset.Ico (Qc h) 30) fun i => dutyTok ER (cell (fromD j.1 c) (credK j)) 0 i) ∗ Given (F := F) c j (Qc h)
    ∗ slotV c j (sl h) fullShare (cont I j h c) ∗ Ext (F := F) c j h))
    ?_ (tri_credWait hh hA) fun _ => ?_
  · dsimp only [CS]; unfold Base
    rw [bigSep_Ico_succ_bot hh (fun i => cred (tallyAt (cell c (credK j)) i 1))]
    iintro ⟨⟨⟨H1, ⟨Hc, H2⟩, H3, H4, H5, H6, H7⟩, Hs, He⟩, HO⟩
    isplitl [Hc H3 HO]
    · isplitl [Hc]; · iexact Hc
      isplitl [H3]; · iexact H3
      iexact HO
    isplitl [H1]; · iexact H1
    isplitl [H2]; · iexact H2
    isplitl [H4]; · iexact H4
    isplitl [H5]; · iexact H5
    isplitl [H6]; · iexact H6
    isplitl [H7]; · iexact H7
    isplitl [Hs]; · iexact Hs
    iexact He
  · rw [show OSp c j (.arm h) = OSp c j (.rdy h) from rfl]
    dsimp only [CS]; unfold Base
    iintro ⟨⟨H3, Hf, HO⟩, H1, H2, H4, H5, H6, H7, Hs, He⟩
    isplitr [HO]
    · isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitl [Hs]; · iexact Hs
      isplitl [Hf]; · iexact Hf
      iexact He
    iexact HO

theorem stp_send {h : ℕ} (hh : h < 30) : Stp I c K KS O j (.arm h) (send (toD j.1 c) j.1 j.2 (sl h) (sl (h + 1))) (.fly h) := by
  unfold Stp
  refine tri_conseq (R := iprop((bigSep (Finset.Ico (h + 1) 30) (SendTok (F := F) c j))
    ∗ (bigSep (Finset.Ico (h + 1) 30) fun i => cred (tallyAt (cell c (credK j)) i 1)) ∗ CredPos (F := F) c j (h + 1)
    ∗ (bigSep (Finset.Ico h 30) fun i => cred (tallyAt (cell c (recvK j (sl (i + 1)))) i N)) ∗ Pos (F := F) c j h
    ∗ (bigSep (Finset.Ico (Qc h) 30) fun i => dutyTok ER (cell (fromD j.1 c) (credK j)) 0 i) ∗ Given (F := F) c j (Qc h) ∗ Ext (F := F) c j h))
    ?_ (tri_send hh (O₀ := O + OSp c j (.arm h)) (O := O + OSp c j (.fly h)) (cont I j h c) rfl (by
      show O + OS c j h (Qc h) = O + OS c j (h + 1) (Qc h) + _
      rw [OS_send c j hh, add_assoc])) fun _ => ?_
  · dsimp only [CS]; unfold Base
    rw [bigSep_Ico_succ_bot hh (SendTok (F := F) c j)]
    iintro ⟨⟨⟨⟨Ht, H1⟩, H2, H3, H4, H5, H6, H7⟩, Hs, Hf, He⟩, HO⟩
    ihave #Hx := (show Pos (F := F) c j h ⊢ ReachAt (F := F) c j h from pos_reach c j (by omega)) $$ H5
    isplitl [Hs Ht Hf HO]
    · isplitl [Hs]; · iexact Hs
      isplitl [Ht]; · iexact Ht
      isplitr; · iexact Hx
      isplitl [Hf]; · iexact Hf
      iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    iexact He
  · dsimp only [CS]; unfold Base
    iintro ⟨⟨Hs, Hc, HO⟩, H1, H2, H3, H4, H5, H6, H7, He⟩
    isplitr [HO]
    · isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitl [Hs]; · iexact Hs
      isplitl [Hc]; · iexact Hc
      iexact He
    iexact HO

theorem stp_wait {h : ℕ} (hh : h < 30) (hA : Above (2 * h + 3) (O + OSp c j (.fly h))) (hA' : Above 0 (O + OSp c j (.fly h))) :
    Stp I c K KS O j (.fly h) (waitHop j.1 j.2 (sl h) (sl (h + 1))) (.got h) := by
  unfold Stp
  refine tri_conseq (R := iprop((bigSep (Finset.Ico (h + 1) 30) (SendTok (F := F) c j))
    ∗ (bigSep (Finset.Ico (h + 1) 30) fun i => cred (tallyAt (cell c (credK j)) i 1)) ∗ CredPos (F := F) c j (h + 1)
    ∗ (bigSep (Finset.Ico (h + 1) 30) fun i => cred (tallyAt (cell c (recvK j (sl (i + 1)))) i N))
    ∗ PosAt (F := F) c j (h + 1) ∗ PosAt (F := F) c j (h + 2) ∗ bigSep (Finset.range (h + 3)) (ReachAt (F := F) c j)
    ∗ (bigSep (Finset.Ico (Qc h) 30) fun i => dutyTok ER (cell (fromD j.1 c) (credK j)) 0 i) ∗ Given (F := F) c j (Qc h) ∗ Ext (F := F) c j h))
    ?_ (tri_waitHop hh hA hA' (cont I j h c)) fun _ => ?_
  · dsimp only [CS]; unfold Base Pos
    rw [bigSep_Ico_succ_bot hh (fun i => cred (tallyAt (cell c (recvK j (sl (i + 1)))) i N))]
    iintro ⟨⟨⟨H1, H2, H3, ⟨Hr, H4⟩, ⟨Hp, Hp1, Hp2, Hx⟩, H6, H7⟩, Hs, Hc, He⟩, HO⟩
    isplitl [Hc Hr Hp Hs HO]
    · isplitl [Hc]; · iexact Hc
      isplitl [Hr]; · iexact Hr
      isplitl [Hp]; · iexact Hp
      isplitl [Hs]; · iexact Hs
      iexact HO
    isplitl [H1]; · iexact H1
    isplitl [H2]; · iexact H2
    isplitl [H3]; · iexact H3
    isplitl [H4]; · iexact H4
    isplitl [Hp1]; · iexact Hp1
    isplitl [Hp2]; · iexact Hp2
    isplitl [Hx]; · iexact Hx
    isplitl [H6]; · iexact H6
    isplitl [H7]; · iexact H7
    iexact He
  · rw [show OSp c j (.got h) = OSp c j (.fly h) from rfl]
    dsimp only [CS]; unfold Base Pos
    rw [show h + 1 + 3 = h + 3 + 1 from rfl, bigSep_range_succ (h + 3) (ReachAt (F := F) c j)]
    iintro ⟨⟨Hp3, Hx3, Hfree, Hs, HO⟩, H1, H2, H3, H4, Hp1, Hp2, Hx, H6, H7, He⟩
    isplitr [HO]
    · isplitl [H1 H2 H3 H4 Hp1 Hp2 Hp3 Hx Hx3 H6 H7]
      · isplitl [H1]; · iexact H1
        isplitl [H2]; · iexact H2
        isplitl [H3]; · iexact H3
        isplitl [H4]; · iexact H4
        isplitl [Hp1 Hp2 Hp3 Hx Hx3]
        · isplitl [Hp1]; · iexact Hp1
          isplitl [Hp2]; · iexact Hp2
          isplitl [Hp3]; · iexact Hp3
          isplitl [Hx3]; · iexact Hx3
          iexact Hx
        isplitl [H6]; · iexact H6
        iexact H7
      isplitl [Hs]; · iexact Hs
      isplitl [Hfree]; · iexact Hfree
      iexact He
    iexact HO

theorem stp_accum {h : ℕ} (hh : h < 15) :
    Stp I c K KS O j (.raw h) (accum j.1 j.2 (sl (h + 1)) (prodAt I j.1 c (h + 1))) (.rdy (h + 1)) := by
  unfold Stp
  refine tri_conseq (R := iprop(Base (F := F) c j (h + 1) (h + 1) (h + 1) (Qc (h + 1)) ∗ Owe (F := F) c (O + OSp c j (.raw h))))
    ?_ (tri_accum j (sl (h + 1)) (cont I j h (fromD j.1 c)) (prodAt I j.1 c (h + 1))) fun _ => ?_
  · dsimp only [CS]
    iintro ⟨⟨HB, Hs⟩, HO⟩
    isplitl [Hs]; · iexact Hs
    isplitl [HB]; · iexact HB
    iexact HO
  · rw [show OSp c j (.rdy (h + 1)) = OSp c j (.raw h) from rfl]
    dsimp only [CS]; unfold Ext
    rw [← cont_add I j hh c, if_neg (by omega)]
    iintro ⟨Hs, HB, HO⟩
    isplitr [HO]
    · isplitl [HB]; · iexact HB
      isplitl [Hs]; · iexact Hs
      iempintro
    iexact HO

/-- A finished chunk is passed on as it came. -/
theorem raw_rdy {h : ℕ} (hh : 15 ≤ h) (h28 : h < 28) : CS I c j (.raw h) ⊢ CS I c j (.rdy (h + 1)) := by
  dsimp only [CS]; unfold Ext
  rw [cont_pass I j hh c, if_neg (by omega)]
  iintro ⟨HB, Hs⟩
  isplitl [HB]; · iexact HB
  isplitl [Hs]; · iexact Hs
  iempintro

/-- At the last hop but one no credit is given any more. -/
theorem got_rdy : CS I c j (.got 28) ⊢ CS I c j (.rdy 29) := by
  dsimp only [CS]; unfold Ext
  rw [cont_pass I j (by decide : 15 ≤ 28) c, if_pos rfl]
  iintro ⟨HB, Hs, Hf, -⟩
  isplitl [HB]; · iexact HB
  isplitl [Hs]; · iexact Hs
  iexact Hf

end Cert.KernelIdeal.Ring

end
-- ==== Proof.State.lean ====
/- All eight chains of a device together. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (I : Ins F) {K : Dev nD × Kind → ℕ} {KS : Key → ℕ} (c : Dev nD)

/-- The chains, each in its stage, and all that they owe. -/
def State (st : Ch → Ph) : sProp 𝕄 :=
  iprop((bigSep Finset.univ fun j => CS I c j (st j)) ∗ Owe (F := F) c (∑ j, OSp c j (st j)))

variable {I c}

theorem state_above {st : Ch → Ph} {v : ℕ} (h : ∀ i, v < 2 * (st i).n + 3 ∧ v < 2 * (st i).q + 2) : Above v (∑ j, OSp c j (st j)) :=
  above_sum fun i _ => OS_above c i (h i).1 (h i).2

theorem state_step {st : Ch → Ph} (j : Ch) {p x : Ph} {e : Pg F PUnit} (hp : st j = p)
    (h : ∀ O, O + OSp c j p = ∑ i, OSp c i (st i) → Stp I c K KS O j p e x) :
    Tri I K KS c (State I c st) e (fun _ => State I c (Function.update st j x)) := by
  have e₁ : (∑ i ∈ Finset.univ.erase j, OSp c i (st i)) + OSp c j p = ∑ i, OSp c i (st i) := by
    rw [← hp]; exact Finset.sum_erase_add _ _ (Finset.mem_univ j)
  have e₂ : (∑ i ∈ Finset.univ.erase j, OSp c i (st i)) + OSp c j x = ∑ i, OSp c i (Function.update st j x i) := by
    rw [← Finset.sum_erase_add _ (fun i => OSp c i (Function.update st j x i)) (Finset.mem_univ j), Function.update_self]
    refine congrArg (· + _) (Finset.sum_congr rfl fun i hi => ?_)
    rw [Function.update_of_ne (Finset.ne_of_mem_erase hi)]
  have hs := h _ e₁
  unfold Stp at hs
  rw [e₁, e₂] at hs
  refine tri_conseq (R := iprop(CS I c j x -∗ bigSep Finset.univ fun i => CS I c i (Function.update st j x i))) ?_ hs fun _ => ?_
  · unfold State
    have hu := bigSep_univ_update (Φ := fun i => CS I c i (st i)) (Ψ := fun i => CS I c i (Function.update st j x i)) j
      (fun i hi => by rw [Function.update_of_ne hi])
    rw [Function.update_self, hp] at hu
    iintro ⟨HB, HO⟩
    ihave HB := hu $$ HB
    icases HB with ⟨Hj, Hw⟩
    isplitl [Hj HO]
    · isplitl [Hj]; · iexact Hj
      iexact HO
    iexact Hw
  · unfold State
    iintro ⟨⟨Hj, HO⟩, Hw⟩
    isplitl [Hj Hw]
    · iapply Hw; iexact Hj
    iexact HO

/-- Both chains of part `k` in stage `x`. -/
def two (st : Ch → Ph) (k : Fin 4) (x : Ph) : Ch → Ph := fun i => if i.2 = k then x else st i

theorem two_at (st : Ch → Ph) (k : Fin 4) (x : Ph) (ρ : Fin 2) : two st k x (ρ, k) = x := if_pos rfl
theorem two_two (st : Ch → Ph) (k : Fin 4) (x y : Ph) : two (two st k x) k y = two st k y := by
  funext i
  unfold two
  by_cases h : i.2 = k
  · rw [if_pos h, if_pos h]
  · rw [if_neg h, if_neg h, if_neg h]
theorem two_all {L : Ph → Prop} {st : Ch → Ph} (h : ∀ i, L (st i)) (k : Fin 4) {x : Ph} (hx : L x) (i : Ch) : L (two st k x i) := by
  unfold two
  split
  · exact hx
  · exact h i
theorem update_two (st : Ch → Ph) (k : Fin 4) (x : Ph) :
    Function.update (Function.update st (0, k) x) (1, k) x = two st k x := by
  funext ⟨ρ, κ⟩
  unfold two
  simp only [Function.update_apply, Prod.mk.injEq]
  match ρ with
  | 0 => by_cases h : κ = k <;> simp [h]
  | 1 => by_cases h : κ = k <;> simp [h]

/-- The same step of both chains of part `k`, then the rest. -/
theorem st_pair (L : Ph → Prop) {st : Ch → Ph} (k : Fin 4) {p : Ph} (x : Ph) (e : Fin 2 → Pg F PUnit) {kk : Pg F PUnit} {Q : PUnit → sProp 𝕄}
    (hp : ∀ ρ, st (ρ, k) = p) (hL : ∀ i, L (st i)) (hx : L x)
    (h : ∀ ρ : Fin 2, ∀ st' : Ch → Ph, (∀ i, L (st' i)) → ∀ O, O + OSp c (ρ, k) p = ∑ i, OSp c i (st' i) → Stp I c K KS O (ρ, k) p (e ρ) x)
    (hk : Tri I K KS c (State I c (two st k x)) kk Q) :
    Tri I K KS c (State I c st) (e 0 >>= fun _ => e 1 >>= fun _ => kk) Q := by
  refine tri_bind (state_step (0, k) (hp 0) (h 0 st hL)) fun _ => ?_
  refine tri_bind (state_step (1, k) (p := p) (by rw [Function.update_of_ne (by simp)]; exact hp 1) (h 1 _ fun i => ?_)) fun _ => ?_
  · by_cases hi : i = (0, k)
    · rw [hi, Function.update_self]; exact hx
    · rw [Function.update_of_ne hi]; exact hL i
  · rw [update_two]; exact hk
theorem st_pair' (L : Ph → Prop) {st : Ch → Ph} (k : Fin 4) {p : Ph} (x : Ph) (e : Fin 2 → Pg F PUnit)
    (hp : ∀ ρ, st (ρ, k) = p) (hL : ∀ i, L (st i)) (hx : L x)
    (h : ∀ ρ : Fin 2, ∀ st' : Ch → Ph, (∀ i, L (st' i)) → ∀ O, O + OSp c (ρ, k) p = ∑ i, OSp c i (st' i) → Stp I c K KS O (ρ, k) p (e ρ) x) :
    Tri I K KS c (State I c st) (e 0 >>= fun _ => e 1) (fun _ => State I c (two st k x)) := by
  have := st_pair L k x e hp hL hx h (kk := pure ⟨⟩) (Q := fun _ => State I c (two st k x)) (tri_pure (BI.Entails.refl _))
  simpa only [bind_pure_unit, bind_pure] using this

/-- The chains of part `k` read as another stage. -/
theorem st_as {st : Ch → Ph} {k : Fin 4} {x y : Ph} (hn : x.n = y.n) (hq : x.q = y.q) (h : ∀ j, CS I c j x ⊢ CS I c j y) :
    State I c (two st k x) ⊢ State I c (two st k y) := by
  unfold State
  have ho : (∑ j, OSp c j (two st k x j)) = ∑ j, OSp c j (two st k y j) := Finset.sum_congr rfl fun j _ => ?_
  · rw [ho]
    refine sep_mono_left ?_
    refine bigSep_mono fun j _ => ?_
    unfold two
    split
    · exact h j
    · exact BI.Entails.refl _
  · unfold two
    split
    · unfold OSp; rw [hn, hq]
    · rfl

/-! ## The groups of steps -/

/-- No chain is behind hop `h`. -/
def Low (h : ℕ) (p : Ph) : Prop := h + 1 ≤ p.n ∧ Qc h ≤ p.q

theorem low_wait {h : ℕ} (hh : h < 30) {st : Ch → Ph} (hL : ∀ i, Low h (st i)) (i : Ch) :
    2 * h + 3 < 2 * (st i).n + 3 ∧ 2 * h + 3 < 2 * (st i).q + 2 := by
  have := hL i
  unfold Low Qc at this
  omega
theorem low_arm {h : ℕ} (hh : h < 29) {st : Ch → Ph} (hL : ∀ i, Low h (st i)) (i : Ch) :
    2 * (h + 1) + 2 < 2 * (st i).n + 3 ∧ 2 * (h + 1) + 2 < 2 * (st i).q + 2 := by
  have := hL i
  unfold Low Qc at this
  omega

theorem st_waitSub {h : ℕ} (hh : h < 30) {st : Ch → Ph} (k : Fin 4) (hp : ∀ ρ, st (ρ, k) = .fly h) (hL : ∀ i, Low h (st i)) :
    Tri I K KS c (State I c st) (waitSub k (sl h) (sl (h + 1))) (fun _ => State I c (two st k (.got h))) :=
  st_pair' (Low h) k (.got h) (fun ρ => waitHop ρ k (sl h) (sl (h + 1))) hp hL ⟨Nat.le_refl _, Nat.le_refl _⟩
    fun ρ st' hL' O hO => stp_wait (j := (ρ, k)) hh (by rw [hO]; exact state_above (low_wait hh hL'))
      (by rw [hO]; exact state_above fun i => by omega)

theorem st_signalSub {h : ℕ} (hh : h < 28) {st : Ch → Ph} (k : Fin 4) (hp : ∀ ρ, st (ρ, k) = .got h) :
    Tri I K KS c (State I c st) (signalSub c k) (fun _ => State I c (two st k (.raw h))) :=
  st_pair' (fun _ => True) k (.raw h) (fun ρ => semSignalWord (fromD ρ c) (credSems ρ k).sem 1#32) hp (fun _ => trivial) trivial
    fun ρ st' _ O hO => stp_sig (j := (ρ, k)) hh

/-- Hop `h` of part `k`, once all chains are past what its credits need. -/
theorem st_startSub {h : ℕ} (hh : h < 30) (L : Ph → Prop) (hv : ∀ st : Ch → Ph, (∀ i, L (st i)) → ∀ i, 2 * h + 2 < 2 * (st i).n + 3 ∧ 2 * h + 2 < 2 * (st i).q + 2)
    (ha : L (.arm h)) {st : Ch → Ph} (k : Fin 4) (hp : ∀ ρ, st (ρ, k) = .rdy h) (hL : ∀ i, L (st i)) :
    Tri I K KS c (State I c st) (startSub c k (sl h) (sl (h + 1))) (fun _ => State I c (two st k (.fly h))) := by
  refine st_pair L k (.arm h) (fun ρ => semWaitWord (credSems ρ k).sem 1#32) hp hL ha
    (fun ρ st' hL' O hO => stp_arm (j := (ρ, k)) hh (by rw [hO]; exact state_above (hv st' hL'))) ?_
  have := st_pair' (I := I) (c := c) (K := K) (KS := KS) (fun _ => True) (st := two st k (.arm h)) k (.fly h) (fun ρ => send (toD ρ c) ρ k (sl h) (sl (h + 1)))
    (two_at st k (.arm h)) (fun _ => trivial) trivial fun ρ st' _ O hO => stp_send (j := (ρ, k)) hh
  rw [two_two] at this
  exact this

theorem st_nextSub {h : ℕ} (hh : h < 29) {st : Ch → Ph} (k : Fin 4) (hL : ∀ i, Low h (st i)) :
    Tri I K KS c (State I c (two st k (.rdy (h + 1)))) (startSub c k (sl (h + 1)) (sl (h + 2))) (fun _ => State I c (two st k (.fly (h + 1)))) := by
  have hq : Qc h ≤ Qc (h + 1) := by unfold Qc; omega
  have hx : Low h (.arm (h + 1)) := ⟨Nat.le_refl _, hq⟩
  have := st_startSub (I := I) (c := c) (K := K) (KS := KS) (h := h + 1) (by omega) (Low h) (fun st hst => low_arm hh hst) hx (st := two st k (.rdy (h + 1))) k
    (two_at st k _) (two_all hL k hx)
  rw [two_two] at this
  exact this

theorem st_rsSub {h : ℕ} (hh : h < 15) {st : Ch → Ph} (k : Fin 4) (hp : ∀ ρ, st (ρ, k) = .fly h) (hL : ∀ i, Low h (st i)) :
    Tri I K KS c (State I c st) (rsSub c (prodAt I 0 c (h + 1)) (prodAt I 1 c (h + 1)) k (sl h) (sl (h + 1)) (sl (h + 2)))
      (fun _ => State I c (two st k (.fly (h + 1)))) := by
  unfold rsSub
  refine tri_bind (st_waitSub (by omega) k hp hL) fun _ => ?_
  refine tri_bind (st_signalSub (by omega) k (two_at st k _)) fun _ => ?_
  rw [two_two]
  refine st_pair (fun _ => True) k (.rdy (h + 1)) (fun ρ => accum ρ k (sl (h + 1)) (prodAt I ρ c (h + 1))) (two_at st k _) (fun _ => trivial) trivial
    (fun ρ st' _ O hO => stp_accum (j := (ρ, k)) hh) ?_
  rw [two_two]
  exact st_nextSub (by omega) k hL

theorem st_agSub {h : ℕ} (h15 : 15 ≤ h) (hh : h < 28) {st : Ch → Ph} (k : Fin 4) (hp : ∀ ρ, st (ρ, k) = .fly h) (hL : ∀ i, Low h (st i)) :
    Tri I K KS c (State I c st) (agSub c true k (sl h) (sl (h + 1)) (sl (h + 2))) (fun _ => State I c (two st k (.fly (h + 1)))) := by
  simp only [agSub, if_true]
  refine tri_bind (st_waitSub (by omega) k hp hL) fun _ => ?_
  refine tri_bind (Q := fun _ => State I c (two (two st k (.got h)) k (.raw h))) (st_signalSub hh k (two_at st k _)) fun _ => ?_
  rw [two_two]
  exact tri_pre (st_as (y := .rdy (h + 1)) rfl rfl fun j => raw_rdy h15 hh) (st_nextSub (by omega) k hL)

theorem st_agSub' {st : Ch → Ph} (k : Fin 4) (hp : ∀ ρ, st (ρ, k) = .fly 28) (hL : ∀ i, Low 28 (st i)) :
    Tri I K KS c (State I c st) (agSub c false k (sl 28) (sl 29) (sl 30)) (fun _ => State I c (two st k (.fly 29))) := by
  simp only [agSub, Bool.false_eq_true, if_false, pure_bind]
  refine tri_bind (st_waitSub (by omega) k hp hL) fun _ => ?_
  exact tri_pre (st_as (y := .rdy 29) rfl rfl fun j => got_rdy) (st_nextSub (by omega) k hL)

/-! ## All four parts -/

/-- The parts before `k` in one stage, the others in another. -/
def parts (p x : Ph) (k : ℕ) : Ch → Ph := fun i => if i.2.val < k then x else p

theorem parts_at (p x : Ph) (k : Fin 4) (ρ : Fin 2) : parts p x k.val (ρ, k) = p := if_neg (Nat.lt_irrefl _)
theorem parts_next (p x : Ph) (k : Fin 4) : two (parts p x k.val) k x = parts p x (k.val + 1) := by
  funext i
  unfold two parts
  by_cases h : i.2 = k
  · rw [if_pos h, if_pos (by rw [h]; omega)]
  · have h' : i.2.val ≠ k.val := fun e => h (Fin.ext e)
    rw [if_neg h]
    by_cases hlt : i.2.val < k.val
    · rw [if_pos hlt, if_pos (by omega)]
    · rw [if_neg hlt, if_neg (by omega)]
theorem parts_all {L : Ph → Prop} {p x : Ph} (hp : L p) (hx : L x) (k : ℕ) (i : Ch) : L (parts p x k i) := by
  unfold parts
  split
  · exact hx
  · exact hp
theorem parts_zero (p x : Ph) : parts p x 0 = fun _ => p := rfl
theorem parts_four (p x : Ph) : parts p x 4 = fun _ => x := funext fun i => if_pos i.2.isLt

/-- The same for all four parts, then the rest. -/
theorem st_four (p x : Ph) (e : Fin 4 → Pg F PUnit)
    (h : ∀ k : Fin 4, Tri I K KS c (State I c (parts p x k.val)) (e k) (fun _ => State I c (two (parts p x k.val) k x)))
    : Tri I K KS c (State I c fun _ => p) (e 0 >>= fun _ => e 1 >>= fun _ => e 2 >>= fun _ => e 3) (fun _ => State I c fun _ => x) := by
  have h' : ∀ k : Fin 4, Tri I K KS c (State I c (parts p x k.val)) (e k) (fun _ => State I c (parts p x (k.val + 1))) := fun k => by
    rw [← parts_next]; exact h k
  refine tri_bind (h' 0) fun _ => tri_bind (h' 1) fun _ => tri_bind (h' 2) fun _ => ?_
  rw [← parts_four p x]
  exact h' 3

theorem low_fly {h h' : ℕ} (hh : h ≤ h') : Low h (.fly h') := ⟨by show h + 1 ≤ h' + 1; omega, by show Qc h ≤ Qc h'; unfold Qc; omega⟩
theorem low_got {h : ℕ} : Low h (.got h) := ⟨Nat.le_refl _, Nat.le_refl _⟩

theorem st_rsFour {h : ℕ} (hh : h < 15) : Tri I K KS c (State I c fun _ => .fly h)
    (rsSub c (prodAt I 0 c (h + 1)) (prodAt I 1 c (h + 1)) 0 (sl h) (sl (h + 1)) (sl (h + 2)) >>= fun _ =>
      rsSub c (prodAt I 0 c (h + 1)) (prodAt I 1 c (h + 1)) 1 (sl h) (sl (h + 1)) (sl (h + 2)) >>= fun _ =>
      rsSub c (prodAt I 0 c (h + 1)) (prodAt I 1 c (h + 1)) 2 (sl h) (sl (h + 1)) (sl (h + 2)) >>= fun _ =>
      rsSub c (prodAt I 0 c (h + 1)) (prodAt I 1 c (h + 1)) 3 (sl h) (sl (h + 1)) (sl (h + 2)))
    (fun _ => State I c fun _ => .fly (h + 1)) :=
  st_four (.fly h) (.fly (h + 1)) (fun k => rsSub c (prodAt I 0 c (h + 1)) (prodAt I 1 c (h + 1)) k (sl h) (sl (h + 1)) (sl (h + 2)))
    fun k => st_rsSub hh k (parts_at _ _ k) (parts_all (low_fly (Nat.le_refl h)) (low_fly (Nat.le_succ h)) _)

theorem st_waitAll : Tri I K KS c (State I c fun _ => .fly 29) (waitAll 2 0) (fun _ => State I c fun _ => .got 29) :=
  st_four (.fly 29) (.got 29) (fun k => waitSub k 2 0) fun k =>
    st_waitSub (h := 29) (by decide) k (parts_at _ _ k) (parts_all (low_fly (Nat.le_refl _)) low_got _)

theorem st_startAll : Tri I K KS c (State I c fun _ => .rdy 0) (startAll c 0 1) (fun _ => State I c fun _ => .fly 0) :=
  st_four (.rdy 0) (.fly 0) (fun k => startSub c k 0 1) fun k =>
    st_startSub (h := 0) (by decide) (fun p => 2 ≤ p.q) (fun st hst i => by have := hst i; omega) (by show 2 ≤ Qc 0; decide) k (parts_at _ _ k)
      (parts_all (L := fun p => 2 ≤ p.q) (by show 2 ≤ Qc 0; decide) (by show 2 ≤ Qc 0; decide) _)

end Cert.KernelIdeal.Ring

end
-- ==== Proof.Store.lean ====
/- Finished chunks on their way to the result. -/
module

public import proofs.«01_k».proof.Proof.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (I : Ins F) {K : Dev nD × Kind → ℕ} {KS : Key → ℕ} (c : Dev nD)

abbrev EC : UEmb Counters 𝕄 := countersEmb (U := UU)

/-! ## The stage -/

abbrev StC (F : FTy → Type) (ρ : Fin 2) : Type := (stageM ρ).view.ty.Contents (Elt F)

/-- The stage's first `k` parts hold the activation of the chunk before hop `n`. -/
def StP (ρ : Fin 2) (n k : ℕ) : sProp 𝕄 :=
  iprop(∃ f : StC F ρ, ⌜∀ κ : Fin 4, κ.val < k → ((stageM ρ).access (partR κ)).read (Elt F) f = act (cont I (ρ, κ) n c)⌝
    ∗ ((stageM ρ).view.loc (c : Thread nD τ) ↦[(stageM ρ).view.set]{fullShare} f))

/-- The stage, whatever it holds. -/
def StA (ρ : Fin 2) : sProp 𝕄 :=
  iprop(∃ f : StC F ρ, ((stageM ρ).view.loc (c : Thread nD τ) ↦[(stageM ρ).view.set]{fullShare} f))

variable {I c}

theorem StA_StP (ρ : Fin 2) (n : ℕ) : StA (F := F) c ρ ⊢ StP I c ρ n 0 := by
  unfold StA StP
  iintro ⟨%f, H⟩
  iexists f
  isplitr
  · ipureintro; exact fun κ h => absurd h (Nat.not_lt_zero _)
  iexact H

theorem part_disjoint (ρ : Fin 2) {κ κ' : Fin 4} (h : κ ≠ κ') :
    Disjoint ((stageM ρ).access (partR κ)).set (((stageM ρ).access (partR κ')).setOn Finset.univ) := by
  rw [View.setOn_univ]
  show Disjoint ((stageM ρ).view.slice (partR κ)).set ((stageM ρ).view.slice (partR κ')).set
  rw [View.set_slice, View.set_slice, Finset.disjoint_map]
  refine Rect.unit_disjoint 0 ?_
  show 128 * κ.val + 128 ≤ 128 * κ'.val ∨ 128 * κ'.val + 128 ≤ 128 * κ.val
  have : κ.val ≠ κ'.val := fun e => h (Fin.ext e)
  omega

/-- One part of the stage filled. -/
theorem tri_fillPart (ρ : Fin 2) (k : Fin 4) (n : ℕ) (i : ℕ) (hi : k.val = i) :
    Tri I K KS c (StP I c ρ n i)
      (Prog.lift (.load (stageM ρ) (partR k).toLoadRect (View.loadsAt_vmem h_S128x2048)) >>= fun _ =>
        Prog.lift (.store (stageM ρ) (partR k) (act (cont I (ρ, k) n c)) Finset.univ (View.stores_vmem_bits_univ h_S128x2048 rfl) (.inl rfl)))
      (fun _ => StP I c ρ n (i + 1)) := by
  unfold Tri Prog.lift StP
  simp only [Prog.bind_op, Prog.bind_ret]
  iintro ⟨-, %f, %hf, H⟩
  iapply (wp_load_rect 𝒱₀ (c : Thread nD τ) none Set.univ (m := stageM ρ) (r := partR k) (q := fullShare) (f := f) (View.set_slice_subset _ _)) $$ [H]
  · iexact H
  iintro H
  iapply (wp_store 𝒱₀ (c : Thread nD τ) none Set.univ (m := stageM ρ) (r := partR k) (w := act (cont I (ρ, k) n c)) (Mk := Finset.univ) (f := f) (S := (stageM ρ).view.set)
    ((View.setOn_univ _).trans_subset (View.set_slice_subset (stageM ρ).view (partR k)))) $$ [H]
  · iexact H
  iintro H
  rw [wp_ret]
  imodintro
  iexists _
  isplitr
  rotate_left
  · iexact H
  ipureintro
  intro κ hκ
  by_cases h : κ = k
  · rw [h]; exact View.read_write_univ _ _
  · refine (View.read_slice_write_slice_of_disjoint _ _ _ _ _ (part_disjoint ρ h)).trans (hf κ ?_)
    have : κ.val ≠ k.val := fun e => h (Fin.ext e)
    omega

theorem tri_stagePart (ρ : Fin 2) (k : Fin 4) (d : Fin 3) (q : PosShare TreeShare) (n : ℕ) (i : ℕ) (hi : k.val = i) :
    Tri I K KS c iprop(slotV c (ρ, k) d q (cont I (ρ, k) n c) ∗ StP I c ρ n i) (stagePart ρ k d)
      (fun _ => iprop(slotV c (ρ, k) d q (cont I (ρ, k) n c) ∗ StP I c ρ n (i + 1))) := by
  unfold stagePart
  refine tri_bind (tri_frame (tri_loadSlot (ρ, k) d q (cont I (ρ, k) n c)) _) fun v => ?_
  refine tri_pre (P := iprop(⌜down v = cont I (ρ, k) n c⌝ ∗ (slotV c (ρ, k) d q (cont I (ρ, k) n c) ∗ StP I c ρ n i))) sep_assoc.1 (tri_given fun hv => ?_)
  rw [hv]
  exact tri_conseq sep_comm.1 (tri_fillPart ρ k n i hi) fun _ => sep_comm.1

/-- A stage at which every chain holds, in slot `n`, what it carries before hop `n`. -/
def Holds (I : Ins F) (c : Dev nD) (p : Ph) (n : ℕ) : Prop :=
  ∀ j, ∃ q, CS I c j p ⊢ iprop(slotV c j (sl n) q (cont I j n c) ∗ (slotV c j (sl n) q (cont I j n c) -∗ CS I c j p))

theorem holds_fly (n : ℕ) : Holds I c (.fly n) n := fun j => ⟨fullShare.left, by
  dsimp only [CS]
  iintro ⟨H1, H2, H3⟩
  isplitl [H2]; · iexact H2
  iintro H2
  isplitl [H1]; · iexact H1
  isplitl [H2]; · iexact H2
  iexact H3⟩
theorem holds_got (n : ℕ) (h : 15 ≤ n) : Holds I c (.got n) (n + 1) := fun j => ⟨fullShare, by
  dsimp only [CS]
  rw [cont_pass I j h c]
  iintro ⟨H1, H2, H3⟩
  isplitl [H2]; · iexact H2
  iintro H2
  isplitl [H1]; · iexact H1
  isplitl [H2]; · iexact H2
  iexact H3⟩

theorem st_stagePart {p : Ph} {n : ℕ} (h : Holds I c p n) (ρ : Fin 2) (k : Fin 4) (i : ℕ) (hi : k.val = i) :
    Tri I K KS c iprop(State I c (fun _ => p) ∗ StP I c ρ n i) (stagePart ρ k (sl n)) (fun _ => iprop(State I c (fun _ => p) ∗ StP I c ρ n (i + 1))) := by
  obtain ⟨q, hq⟩ := h (ρ, k)
  have hu := bigSep_univ_update (Φ := fun i => CS I c i p) (Ψ := fun i => CS I c i p) (ρ, k) (fun i hi => rfl)
  refine tri_conseq (R := iprop((slotV c (ρ, k) (sl n) q (cont I (ρ, k) n c) -∗ CS I c (ρ, k) p)
    ∗ (CS I c (ρ, k) p -∗ bigSep Finset.univ fun i => CS I c i p) ∗ Owe (F := F) c (∑ j, OSp c j p))) ?_ (tri_stagePart ρ k (sl n) q n i hi) fun _ => ?_
  · unfold State
    iintro ⟨⟨HB, HO⟩, HS⟩
    ihave HB := hu $$ HB
    icases HB with ⟨Hj, Hw⟩
    ihave Hj := hq $$ Hj
    icases Hj with ⟨Hs, Hv⟩
    isplitl [Hs HS]
    · isplitl [Hs]; · iexact Hs
      iexact HS
    isplitl [Hv]; · iexact Hv
    isplitl [Hw]; · iexact Hw
    iexact HO
  · unfold State
    iintro ⟨⟨Hs, HS⟩, Hv, Hw, HO⟩
    isplitr [HS]
    · isplitr [HO]
      · iapply Hw; iapply Hv; iexact Hs
      iexact HO
    iexact HS

theorem st_stage {p : Ph} {n : ℕ} (h : Holds I c p n) (ρ : Fin 2) {kk : Pg F PUnit} {R : sProp 𝕄} {Q : PUnit → sProp 𝕄}
    (hk : Tri I K KS c iprop((State I c (fun _ => p) ∗ StP I c ρ n 4) ∗ R) kk Q) :
    Tri I K KS c iprop((State I c (fun _ => p) ∗ StA (F := F) c ρ) ∗ R)
      (stagePart ρ 0 (sl n) >>= fun _ => stagePart ρ 1 (sl n) >>= fun _ => stagePart ρ 2 (sl n) >>= fun _ => stagePart ρ 3 (sl n) >>= fun _ => kk) Q := by
  refine tri_pre (sep_mono_left (sep_mono_right (StA_StP (I := I) ρ n))) ?_
  refine tri_bind (tri_frame (st_stagePart h ρ 0 0 rfl) R) fun _ => ?_
  refine tri_bind (tri_frame (st_stagePart h ρ 1 1 rfl) R) fun _ => ?_
  refine tri_bind (tri_frame (st_stagePart h ρ 2 2 rfl) R) fun _ => ?_
  exact tri_bind (tri_frame (st_stagePart h ρ 3 3 rfl) R) fun _ => hk

/-! ## The result -/

abbrev OutC (F : FTy → Type) : Type := (outM : Memref sig .tc .hbm S8192x4096 .f32).view.ty.Contents (Elt F)

abbrev outO (ρ : Fin 2) (c : Dev nD) (n : ℕ) : Memref sig .tc .hbm S512x2048 .f32 := outV (oo ρ c n) (oo_inb ρ c n)

/-- The chunk of ring `ρ` that device `c` had before hop `n` stands in the result. -/
def Good (I : Ins F) (c : Dev nD) (ρ : Fin 2) (n : ℕ) (f : OutC F) : Prop :=
  ∀ κ : Fin 4, partOf κ ((outO ρ c n).view.read (Elt F) f) = act (cont I (ρ, κ) n c)

variable (I c) in
/-- The result, with the chunks of the hops up to `n`. -/
def OutP (n : ℕ) : sProp 𝕄 :=
  iprop(∃ f : OutC F, ⌜∀ ρ m, 15 ≤ m → m < n → Good I c ρ m f⌝
    ∗ ((outM : Memref sig .tc .hbm S8192x4096 .f32).view.loc (c : Thread nD τ) ↦{fullShare} f))

theorem outV_set (o : Fin 2 → ℕ) (h : ∀ a, o a + S512x2048.size a ≤ S8192x4096.size a) :
    (outV o h).view.set = (Rect.unit (s := S8192x4096) o S512x2048.size h).set.map (outM : Memref sig .tc .hbm S8192x4096 .f32).view.emb :=
  View.set_slice _ _

theorem out_disjoint (ρ ρ' : Fin 2) (c : Dev nD) {n n' : ℕ} (h : 15 ≤ n) (h' : n < 31) (g : 15 ≤ n') (g' : n' < 31) (hne : ρ ≠ ρ' ∨ n ≠ n') :
    Disjoint (outO ρ c n).view.set (outO ρ' c n').view.set := by
  rw [outV_set, outV_set, Finset.disjoint_map]
  by_cases hρ : ρ = ρ'
  · subst hρ
    refine Rect.unit_disjoint 0 ?_
    show 512 * chk ρ c n + 512 ≤ 512 * chk ρ c n' ∨ 512 * chk ρ c n' + 512 ≤ 512 * chk ρ c n
    have : chk ρ c n ≠ chk ρ c n' := fun e => (hne.resolve_left (fun x => x rfl)) (chk_inj ρ c h h' g g' e)
    omega
  · refine Rect.unit_disjoint 1 ?_
    show 2048 * ρ.val + 2048 ≤ 2048 * ρ'.val ∨ 2048 * ρ'.val + 2048 ≤ 2048 * ρ.val
    have : ρ.val ≠ ρ'.val := fun e => hρ (Fin.ext e)
    omega

/-- A chunk read after its own transfer. -/
theorem good_written (ρ : Fin 2) (n : ℕ) (f : OutC F) (g : OutC F) (v : StC F ρ) (hv : ∀ κ : Fin 4, ((stageM ρ).access (partR κ)).read (Elt F) v = act (cont I (ρ, κ) n c))
    (h : ∀ i ∈ (outO ρ c n).view.set, f i = (outO ρ c n).view.write (Elt F) g ((stageM ρ).view.read (Elt F) v) Finset.univ i) : Good I c ρ n f := by
  exact fun κ => (congrArg (partOf κ) ((View.read_congr h).trans (View.read_write_univ _ _))).trans (hv κ)
theorem good_congr (ρ : Fin 2) (n : ℕ) (f g : OutC F) (h : ∀ i ∈ (outO ρ c n).view.set, f i = g i) (hg : Good I c ρ n g) : Good I c ρ n f := by
  exact fun κ => (congrArg (partOf κ) (View.read_congr h)).trans (hg κ)

variable (c) in
/-- The two semaphores that count the transfers to the result. -/
def OSem : sProp 𝕄 := iprop(semVal ((c : Thread nD τ), .dma (outSems 0).sem) 0 ∗ semVal ((c : Thread nD τ), .dma (outSems 1).sem) 0)

theorem outO_pos (ρ : Fin 2) (n : ℕ) : 0 < (outO ρ c n).view.dmaCredit := View.dmaCredit_pos _ (by decide)

set_option maxRecDepth 20000 in
theorem mayWait_out (ρ : Fin 2) {O : CellTallies nD τ sig ℕ} (hO : Above 0 O) :
    Ctx I K KS ⊢ (MayWait (c : Thread nD τ) (.dma (outSems ρ).sem) 0 O : sProp 𝕄) := by
  have h : Above (lv ((c : Thread nD τ), .dma (outSems ρ).sem) 0) O := by
    match ρ with
    | 0 => exact hO
    | 1 => exact hO
  have h2 : (levAts L lv : sProp 𝕄) ⊢ MayWait (c : Thread nD τ) (.dma (outSems ρ).sem) 0 O := mayWait_of_above c _ 0 (by decide) h
  have h1 : Ctx I K KS ⊢ (levAts L lv : sProp 𝕄) := Ctx_lev I K KS
  exact BI.Entails.trans h1 h2

theorem tri_copies {n : ℕ} (hn : 15 ≤ n) (hn' : n < 31) {O : CellTallies nD τ sig ℕ} (hO : Above 0 O) :
    Tri I K KS c iprop(StP I c 0 n 4 ∗ StP I c 1 n 4 ∗ OSem (F := F) c ∗ OutP I c n ∗ Owe (F := F) c O)
      (copyOut 0 (oo 0 c n) (oo_inb 0 c n) >>= fun _ => copyOut 1 (oo 1 c n) (oo_inb 1 c n) >>= fun _ =>
        waitOut 0 (oo 0 c n) (oo_inb 0 c n) >>= fun _ => waitOut 1 (oo 1 c n) (oo_inb 1 c n))
      (fun _ => iprop(StA (F := F) c 0 ∗ StA (F := F) c 1 ∗ OSem (F := F) c ∗ OutP I c (n + 1) ∗ Owe (F := F) c O)) := by
  have hd : Disjoint (outO 0 c n).view.set (outO 1 c n).view.set := out_disjoint 0 1 c hn hn' hn hn' (Or.inl (by decide))
  have hs : (outO 1 c n).view.set ⊆ Finset.univ \ (outO 0 c n).view.set := fun i hi =>
    Finset.mem_sdiff.mpr ⟨Finset.mem_univ _, fun h => Finset.disjoint_left.mp hd h hi⟩
  unfold Tri copyOut waitOut Prog.lift
  simp only [Prog.bind_op, Prog.bind_ret]
  unfold StP OSem OutP Owe StA
  iintro ⟨#HC, ⟨%f0, %hf0, H0⟩, ⟨%f1, %hf1, H1⟩, ⟨Hv0, Hv1⟩, ⟨%f, %hf, Hf⟩, ⟨%W, HO⟩⟩
  ihave Hf := (pointsTo_split_subset (ℓ := (outM : Memref sig .tc .hbm S8192x4096 .f32).view.loc (c : Thread nD τ)) (I := (outO 0 c n).view.set) (S := Finset.univ)
    (Finset.subset_univ _)).1 $$ Hf
  icases Hf with ⟨Hd0, Hf⟩
  ihave Hf := (pointsTo_split_subset (ℓ := (outM : Memref sig .tc .hbm S8192x4096 .f32).view.loc (c : Thread nD τ)) (I := (outO 1 c n).view.set) hs).1 $$ Hf
  icases Hf with ⟨Hd1, Hf⟩
  iapply (Transfers.wp_dmaLocal EC 𝒱₀ (c : Thread nD τ) none (src := stageM 0) (dst := outO 0 c n) (sm := .dma (outSems 0).sem) (fs := f0) (fd := f)
    0 ((outO 0 c n).view.dmaCredit) rfl (outO_pos 0 n) Finset.Subset.rfl) $$ [H0 Hd0 Hv0]
  · isplitl [H0]; · iexact H0
    isplitl [Hd0]; · iexact Hd0
    iexact Hv0
  iintro HF0
  iapply (Transfers.wp_dmaLocal EC 𝒱₀ (c : Thread nD τ) none (src := stageM 1) (dst := outO 1 c n) (sm := .dma (outSems 1).sem) (fs := f1) (fd := f)
    0 ((outO 1 c n).view.dmaCredit) rfl (outO_pos 1 n) Finset.Subset.rfl) $$ [H1 Hd1 Hv1]
  · isplitl [H1]; · iexact H1
    isplitl [Hd1]; · iexact Hd1
    iexact Hv1
  iintro HF1
  iapply (Transfers.wp_waitLocalO EC 𝒱₀ (c : Thread nD τ) none (sem := (outSems 0).sem) (dstw := outO 0 c n) 0 rfl) $$ [HF0 HO]
  · isplitl [HF0]; · iexact HF0
    isplitl [HO]; · iexact HO
    iapply (mayWait_out (I := I) (K := K) (KS := KS) (c := c) 0 hO)
    iexact HC
  iintro ⟨⟨Hd0, H0⟩, Hv0, HO⟩
  iapply (Transfers.wp_waitLocalO EC 𝒱₀ (c : Thread nD τ) none (sem := (outSems 1).sem) (dstw := outO 1 c n) 0 rfl) $$ [HF1 HO]
  · isplitl [HF1]; · iexact HF1
    isplitl [HO]; · iexact HO
    iapply (mayWait_out (I := I) (K := K) (KS := KS) (c := c) 1 hO)
    iexact HC
  iintro ⟨⟨Hd1, H1⟩, Hv1, HO⟩
  rw [wp_ret]
  imodintro
  isplitl [H0]; · iexists f0; iexact H0
  isplitl [H1]; · iexists f1; iexact H1
  isplitl [Hv0 Hv1]
  · isplitl [Hv0]; · iexact Hv0
    iexact Hv1
  isplitr [HO]
  · ihave Hf := (pointsTo_join_subset (ℓ := (outM : Memref sig .tc .hbm S8192x4096 .f32).view.loc (c : Thread nD τ)) (I := (outO 1 c n).view.set) hs) $$ [Hd1 Hf]
    · isplitl [Hd1]; · iexact Hd1
      iexact Hf
    ihave Hf := (pointsTo_join_subset (ℓ := (outM : Memref sig .tc .hbm S8192x4096 .f32).view.loc (c : Thread nD τ)) (I := (outO 0 c n).view.set) (S := Finset.univ)
      (Finset.subset_univ _)) $$ [Hd0 Hf]
    · isplitl [Hd0]; · iexact Hd0
      iexact Hf
    iexists _
    isplitr
    rotate_left
    · iexact Hf
    ipureintro
    intro ρ m hm hm'
    by_cases he : m = n
    · subst he
      match ρ with
      | 0 => exact good_written 0 m _ f f0 (fun κ => hf0 κ κ.isLt) fun i hi => Finset.piecewise_eq_of_mem _ _ _ hi
      | 1 => exact good_written 1 m _ f f1 (fun κ => hf1 κ κ.isLt) fun i hi =>
          (Finset.piecewise_eq_of_notMem _ _ _ fun h => Finset.disjoint_left.mp hd h hi).trans (Finset.piecewise_eq_of_mem _ _ _ hi)
    · refine good_congr ρ m _ f (fun i hi => ?_) (hf ρ m hm (by omega))
      have h0 := out_disjoint ρ 0 c hm (by omega) hn hn' (Or.inr he)
      have h1 := out_disjoint ρ 1 c hm (by omega) hn hn' (Or.inr he)
      exact (Finset.piecewise_eq_of_notMem _ _ _ (Finset.disjoint_left.mp h0 hi)).trans (Finset.piecewise_eq_of_notMem _ _ _ (Finset.disjoint_left.mp h1 hi))
  iexists _; iexact HO

variable (I c) in
/-- What storing works with. -/
def Sto (n : ℕ) : sProp 𝕄 := iprop(StA (F := F) c 0 ∗ StA (F := F) c 1 ∗ OSem (F := F) c ∗ OutP I c n)

theorem st_agStore {p : Ph} {n : ℕ} (hn : 15 ≤ n) (hn' : n < 31) (h : Holds I c p n) :
    Tri I K KS c iprop(State I c (fun _ => p) ∗ Sto I c n)
      (agStore (sl n) (oo 0 c n) (oo 1 c n) (oo_inb 0 c n) (oo_inb 1 c n)) (fun _ => iprop(State I c (fun _ => p) ∗ Sto I c (n + 1))) := by
  unfold agStore
  refine tri_pre (P := iprop((State I c (fun _ => p) ∗ StA (F := F) c 0) ∗ (StA (F := F) c 1 ∗ OSem (F := F) c ∗ OutP I c n))) ?_ (st_stage h 0 ?_)
  · unfold Sto
    iintro ⟨HS, H0, H1, Hr⟩
    isplitl [HS H0]
    · isplitl [HS]; · iexact HS
      iexact H0
    isplitl [H1]; · iexact H1
    iexact Hr
  refine tri_pre (P := iprop((State I c (fun _ => p) ∗ StA (F := F) c 1) ∗ (StP I c 0 n 4 ∗ OSem (F := F) c ∗ OutP I c n))) ?_ (st_stage h 1 ?_)
  · iintro ⟨⟨HS, H0⟩, H1, Hr⟩
    isplitl [HS H1]
    · isplitl [HS]; · iexact HS
      iexact H1
    isplitl [H0]; · iexact H0
    iexact Hr
  refine tri_conseq (R := bigSep Finset.univ fun j => CS I c j p) ?_ (tri_copies hn hn' (O := ∑ j, OSp c j p) (state_above (st := fun _ => p) fun i => by omega)) fun _ => ?_
  · unfold State
    iintro ⟨⟨⟨HB, HO⟩, H1⟩, H0, Hs, Hf⟩
    isplitr [HB]
    · isplitl [H0]; · iexact H0
      isplitl [H1]; · iexact H1
      isplitl [Hs]; · iexact Hs
      isplitl [Hf]; · iexact Hf
      iexact HO
    iexact HB
  · unfold State Sto
    iintro ⟨⟨H0, H1, Hs, Hf, HO⟩, HB⟩
    isplitl [HB HO]
    · isplitl [HB]; · iexact HB
      iexact HO
    isplitl [H0]; · iexact H0
    isplitl [H1]; · iexact H1
    isplitl [Hs]; · iexact Hs
    iexact Hf

end Cert.KernelIdeal.Ring

end
-- ==== Proof.Body.lean ====
/- The body on one device, from what it is launched with to the whole result. -/
module

public import proofs.«01_k».proof.Proof.Store

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (I : Ins F) {K : Dev nD × Kind → ℕ} {KS : Key → ℕ} (c : Dev nD)

/-! ## The operands -/

/-- The device's columns of `x` and rows of `w`. -/
def InP : sProp 𝕄 :=
  iprop(((xM : Memref sig .tc .vmem S8192x512 .bf16).view.loc (c : Thread nD τ) ↦{fullShare} I.x c)
    ∗ ((wM : Memref sig .tc .vmem S512x4096 .bf16).view.loc (c : Thread nD τ) ↦{fullShare} I.w c))

/-- 512 rows of the device's columns of `x`. -/
abbrev xAt (o : Fin 2 → ℕ) (h : ∀ a, o a + S512x512.size a ≤ S8192x512.size a) : Vec F S512x512 .bf16 :=
  (xM : Memref sig .tc .vmem S8192x512 .bf16).view.readAt (Elt F) (Rect.unit (s := S8192x512) o S512x512.size h).toLoadRect (I.x c)
/-- A half of the device's rows of `w`. -/
abbrev wAt (ρ : Fin 2) : Vec F S512x2048 .bf16 :=
  (wM : Memref sig .tc .vmem S512x4096 .bf16).view.readAt (Elt F) (halfR ρ).toLoadRect (I.w c)

variable {I c}

theorem tri_loadX (o : Fin 2 → ℕ) (h : ∀ a, o a + S512x512.size a ≤ S8192x512.size a) :
    Tri I K KS c (InP I c) (loadX o h) (fun v => iprop(⌜v = xAt I c o h⌝ ∗ InP I c)) := by
  unfold Tri loadX Prog.lift InP
  iintro ⟨-, H, Hw⟩
  iapply (wp_load_rect 𝒱₀ (c : Thread nD τ) none Set.univ (m := xM) (r := Rect.unit (s := S8192x512) o S512x512.size h) (q := fullShare) (f := I.x c)
    (Finset.subset_univ _)) $$ [H]
  · iexact H
  iintro H
  rw [wp_ret]
  imodintro
  isplitr; · ipureintro; rfl
  isplitl [H]; · iexact H
  iexact Hw
theorem tri_loadW (ρ : Fin 2) :
    Tri I K KS c (InP I c) (loadW ρ) (fun v => iprop(⌜v = wAt I c ρ⌝ ∗ InP I c)) := by
  unfold Tri loadW Prog.lift InP
  iintro ⟨-, Hx, H⟩
  iapply (wp_load_rect 𝒱₀ (c : Thread nD τ) none Set.univ (m := wM) (r := halfR ρ) (q := fullShare) (f := I.w c) (Finset.subset_univ _)) $$ [H]
  · iexact H
  iintro H
  rw [wp_ret]
  imodintro
  isplitr; · ipureintro; rfl
  isplitl [Hx]; · iexact Hx
  iexact H

/-- A load of the operands, then the rest with what it read. -/
theorem tri_read {α : Type} {e : Pg F α} {u : α} {P : sProp 𝕄} {k : α → Pg F PUnit} {Q : PUnit → sProp 𝕄}
    (h : Tri I K KS c (InP I c) e (fun v => iprop(⌜v = u⌝ ∗ InP I c))) (hk : Tri I K KS c iprop(InP I c ∗ P) (k u) Q) :
    Tri I K KS c iprop(InP I c ∗ P) (e >>= k) Q := by
  refine tri_bind (tri_frame h P) fun v => ?_
  refine tri_pre (P := iprop(⌜v = u⌝ ∗ (InP I c ∗ P))) sep_assoc.1 (tri_given fun hv => ?_)
  rw [hv]
  exact hk

/-- The four loads a step begins with. -/
theorem tri_reads {o0 o1 : Fin 2 → ℕ} {h0 : ∀ a, o0 a + S512x512.size a ≤ S8192x512.size a} {h1 : ∀ a, o1 a + S512x512.size a ≤ S8192x512.size a}
    {P P' : sProp 𝕄} {k : Vec F S512x512 .bf16 → Vec F S512x2048 .bf16 → Vec F S512x512 .bf16 → Vec F S512x2048 .bf16 → Pg F PUnit}
    (hk : Tri I K KS c P (k (xAt I c o0 h0) (wAt I c 0) (xAt I c o1 h1) (wAt I c 1)) (fun _ => P')) :
    Tri I K KS c iprop(InP I c ∗ P)
      (loadX o0 h0 >>= fun x0 => loadW 0 >>= fun w0 => loadX o1 h1 >>= fun x1 => loadW 1 >>= fun w1 => k x0 w0 x1 w1) (fun _ => iprop(InP I c ∗ P')) :=
  tri_read (tri_loadX o0 h0) <| tri_read (tri_loadW 0) <| tri_read (tri_loadX o1 h1) <| tri_read (tri_loadW 1) <|
    tri_conseq sep_comm.1 hk fun _ => sep_comm.1

/-! ## The steps -/

theorem st_rsMid {h : ℕ} (hh : h < 15) {o0 o1 : Fin 2 → ℕ} {h0 : ∀ a, o0 a + S512x512.size a ≤ S8192x512.size a}
    {h1 : ∀ a, o1 a + S512x512.size a ≤ S8192x512.size a} {s d e : Fin 3} (e0 : o0 = xo 0 c (h + 1)) (e1 : o1 = xo 1 c (h + 1))
    (hs : s = sl h) (hd : d = sl (h + 1)) (he : e = sl (h + 2)) :
    Tri I K KS c iprop(InP I c ∗ State I c fun _ => .fly h) (rsMid c o0 o1 h0 h1 s d e) (fun _ => iprop(InP I c ∗ State I c fun _ => .fly (h + 1))) := by
  subst e0 e1 hs hd he
  unfold rsMid
  exact tri_reads (st_rsFour hh)

theorem st_agMid {h : ℕ} (h15 : 15 ≤ h) (hh : h < 28) {o0 o1 : Fin 2 → ℕ} {h0 : ∀ a, o0 a + S512x2048.size a ≤ S8192x4096.size a}
    {h1 : ∀ a, o1 a + S512x2048.size a ≤ S8192x4096.size a} {s d e : Fin 3} (e0 : o0 = oo 0 c (h + 1)) (e1 : o1 = oo 1 c (h + 1))
    (hs : s = sl h) (hd : d = sl (h + 1)) (he : e = sl (h + 2)) :
    Tri I K KS c iprop((State I c fun _ => .fly h) ∗ Sto I c (h + 1)) (agMid c true o0 o1 h0 h1 s d e)
      (fun _ => iprop((State I c fun _ => .fly (h + 1)) ∗ Sto I c (h + 2))) := by
  subst e0 e1 hs hd he
  have h4 := st_four (I := I) (K := K) (KS := KS) (c := c) (.fly h) (.fly (h + 1)) (fun k => agSub c true k (sl h) (sl (h + 1)) (sl (h + 2)))
    fun k => st_agSub h15 hh k (parts_at _ _ k) (parts_all (low_fly (Nat.le_refl h)) (low_fly (Nat.le_succ h)) _)
  have := tri_bind (tri_frame h4 (Sto I c (h + 1))) fun _ => st_agStore (I := I) (K := K) (KS := KS) (c := c) (n := h + 1) (by omega) (by omega) (holds_fly (h + 1))
  simpa only [agMid, bind_assoc] using this

theorem st_agMid' {o0 o1 : Fin 2 → ℕ} {h0 : ∀ a, o0 a + S512x2048.size a ≤ S8192x4096.size a}
    {h1 : ∀ a, o1 a + S512x2048.size a ≤ S8192x4096.size a} (e0 : o0 = oo 0 c 29) (e1 : o1 = oo 1 c 29) :
    Tri I K KS c iprop((State I c fun _ => .fly 28) ∗ Sto I c 29) (agMid c false o0 o1 h0 h1 (sl 28) (sl 29) (sl 30))
      (fun _ => iprop((State I c fun _ => .fly 29) ∗ Sto I c 30)) := by
  subst e0 e1
  have h4 := st_four (I := I) (K := K) (KS := KS) (c := c) (.fly 28) (.fly 29) (fun k => agSub c false k (sl 28) (sl 29) (sl 30))
    fun k => st_agSub' k (parts_at _ _ k) (parts_all (low_fly (Nat.le_refl 28)) (low_fly (Nat.le_succ 28)) _)
  have := tri_bind (tri_frame h4 (Sto I c 29)) fun _ => st_agStore (I := I) (K := K) (KS := KS) (c := c) (n := 29) (by omega) (by omega) (holds_fly 29)
  simpa only [agMid, bind_assoc] using this

/-- A counted loop, by what holds before each trip. -/
theorem tri_loop (l : Scf.Loop 32) (hok : l.OK) (body : Fin l.trips → PUnit → Pg F PUnit) (J : ℕ → sProp 𝕄) {m : ℕ} (hm : l.trips = m)
    (h : ∀ t : Fin l.trips, Tri I K KS c (J t.val) (body t ⟨⟩) (fun _ => J (t.val + 1))) :
    Tri I K KS c (J 0) (Scf.Loop.for l hok ⟨⟩ body) (fun _ => J m) := by
  subst hm
  unfold Tri at h ⊢
  iintro ⟨#HC, H⟩
  iapply (Scf.wp_for frame (wpE (defs₀ (F := F)) 𝒱₀ (c : Thread nD τ) none) Set.univ l.lb l.ub l.st hok ⟨⟩ body (fun n _ => iprop(Ctx I K KS ∗ J n)) fun t a => by
    iintro ⟨#HC, H⟩
    iapply (wp_wand_r frame _ Set.univ)
    isplitl [H]
    · iapply (h t); isplitr; · iexact HC
      iexact H
    · iintro %_ H
      isplitr; · iexact HC
      iexact H)
  isplitl [H]
  · isplitr; · iexact HC
    iexact H
  iintro %_ ⟨-, H⟩
  iexact H

theorem sl0 (t : ℕ) : (0 : Fin 3) = sl (3 * t) := Fin.ext (by show 0 = 3 * t % 3; omega)
theorem sl1 (t : ℕ) : (1 : Fin 3) = sl (3 * t + 1) := Fin.ext (by show 1 = (3 * t + 1) % 3; omega)
theorem sl2 (t : ℕ) : (2 : Fin 3) = sl (3 * t + 2) := Fin.ext (by show 2 = (3 * t + 2) % 3; omega)
theorem trips1 : k0_t1_loop.trips = 4 := by decide +kernel
theorem trips2 : k0_t2_loop.trips = 4 := by decide +kernel

theorem st_rsTrip (t : Fin k0_t1_loop.trips) :
    Tri I K KS c iprop(InP I c ∗ State I c fun _ => .fly (3 * t.val)) (rsTrip c t) (fun _ => iprop(InP I c ∗ State I c fun _ => .fly (3 * (t.val + 1)))) := by
  have ht : t.val < 4 := lt_of_lt_of_eq t.isLt trips1
  unfold rsTrip
  refine tri_bind (st_rsMid (h := 3 * t.val) (by omega) (off2 c t) (off3 c t) (sl0 _) (sl1 _) (sl2 _)) fun _ => ?_
  refine tri_bind (st_rsMid (h := 3 * t.val + 1) (by omega) (off4a c t) (off5a c t) (sl1 _) (sl2 _) (sl0 (t.val + 1))) fun _ => ?_
  exact st_rsMid (h := 3 * t.val + 2) (by omega) (off4b c t) (off5b c t) (sl2 _) (sl0 (t.val + 1)) (sl1 (t.val + 1))

theorem st_rsTail :
    Tri I K KS c iprop(InP I c ∗ State I c fun _ => .fly 12) (rsTail c) (fun _ => iprop(InP I c ∗ State I c fun _ => .fly 15)) := by
  unfold rsTail
  refine tri_bind (st_rsMid (h := 12) (by omega) (off6a c) (off7a c) rfl rfl rfl) fun _ => ?_
  refine tri_bind (st_rsMid (h := 13) (by omega) (off6b c) (off7b c) rfl rfl rfl) fun _ => ?_
  exact st_rsMid (h := 14) (by omega) (off6c c) (off7c c) rfl rfl rfl

theorem st_agTrip (t : Fin k0_t2_loop.trips) :
    Tri I K KS c iprop((State I c fun _ => .fly (3 * t.val + 15)) ∗ Sto I c (3 * t.val + 16)) (agTrip c t)
      (fun _ => iprop((State I c fun _ => .fly (3 * (t.val + 1) + 15)) ∗ Sto I c (3 * (t.val + 1) + 16))) := by
  have ht : t.val < 4 := lt_of_lt_of_eq t.isLt trips2
  unfold agTrip
  refine tri_bind (st_agMid (h := 3 * t.val + 15) (by omega) (by omega) (off10 c t) (off11 c t) (sl0 (t.val + 5)) (sl1 (t.val + 5)) (sl2 (t.val + 5))) fun _ => ?_
  refine tri_bind (st_agMid (h := 3 * t.val + 16) (by omega) (by omega) (off12a c t) (off13a c t) (sl1 (t.val + 5)) (sl2 (t.val + 5)) (sl0 (t.val + 6))) fun _ => ?_
  exact st_agMid (h := 3 * t.val + 17) (by omega) (by omega) (off12b c t) (off13b c t) (sl2 (t.val + 5)) (sl0 (t.val + 6)) (sl1 (t.val + 6))

theorem st_agLast {p : Ph} {n : ℕ} (hn : 15 ≤ n) (hn' : n < 31) (h : Holds I c p n) {o0 o1 : Fin 2 → ℕ}
    {h0 : ∀ a, o0 a + S512x2048.size a ≤ S8192x4096.size a} {h1 : ∀ a, o1 a + S512x2048.size a ≤ S8192x4096.size a} {d : Fin 3}
    (e0 : o0 = oo 0 c n) (e1 : o1 = oo 1 c n) (hd : d = sl n) :
    Tri I K KS c iprop(State I c (fun _ => p) ∗ Sto I c n) (agStore d o0 o1 h0 h1) (fun _ => iprop(State I c (fun _ => p) ∗ Sto I c (n + 1))) := by
  subst e0 e1 hd
  exact st_agStore hn hn' h

theorem st_agTail :
    Tri I K KS c iprop((State I c fun _ => .fly 27) ∗ Sto I c 28) (agTail c) (fun _ => iprop((State I c fun _ => .got 29) ∗ Sto I c 31)) := by
  unfold agTail
  refine tri_bind (st_agMid (h := 27) (by omega) (by omega) (off14a c) (off15a c) rfl rfl rfl) fun _ => ?_
  refine tri_bind (st_agMid' (off14b c) (off15b c)) fun _ => ?_
  refine tri_bind (tri_frame st_waitAll _) fun _ => ?_
  exact st_agLast (n := 30) (by omega) (by omega) (holds_got 29 (by omega)) (off14c c) (off15c c) rfl

/-! ## The beginning -/

/-- The first `k` chains at `x`, the others at `p`. -/
def firsts (p x : Ph) (k : ℕ) : Ch → Ph := fun i => if 4 * i.1.val + i.2.val < k then x else p

theorem firsts_next (p x : Ph) (j : Ch) : Function.update (firsts p x (4 * j.1.val + j.2.val)) j x = firsts p x (4 * j.1.val + j.2.val + 1) := by
  funext i
  by_cases h : i = j
  · subst h
    rw [Function.update_self]
    exact (if_pos (Nat.lt_succ_self _)).symm
  · rw [Function.update_of_ne h]
    unfold firsts
    have : 4 * i.1.val + i.2.val ≠ 4 * j.1.val + j.2.val := fun e => by
      have h2 := i.2.isLt
      have h3 := j.2.isLt
      exact h (Prod.ext (Fin.ext (by omega)) (Fin.ext (by omega)))
    by_cases hl : 4 * i.1.val + i.2.val < 4 * j.1.val + j.2.val
    · rw [if_pos hl, if_pos (by omega)]
    · rw [if_neg hl, if_neg (by omega)]

/-- The same step for all eight chains. -/
theorem st_eight (p x : Ph) (e : Ch → Pg F PUnit) (h : ∀ j O, Stp I c K KS O j p (e j) x) :
    Tri I K KS c (State I c fun _ => p) (e (0, 0) >>= fun _ => e (0, 1) >>= fun _ => e (0, 2) >>= fun _ => e (0, 3) >>= fun _ =>
      e (1, 0) >>= fun _ => e (1, 1) >>= fun _ => e (1, 2) >>= fun _ => e (1, 3)) (fun _ => State I c fun _ => x) := by
  have s : ∀ j : Ch, Tri I K KS c (State I c (firsts p x (4 * j.1.val + j.2.val))) (e j) (fun _ => State I c (firsts p x (4 * j.1.val + j.2.val + 1))) := fun j => by
    rw [← firsts_next]
    exact state_step j (if_neg (Nat.lt_irrefl _)) fun O _ => h j O
  have e0 : (fun _ => p) = firsts p x 0 := rfl
  have e8 : (fun _ => x) = firsts p x 8 := funext fun i => (if_pos (by
    have h1 := i.1.isLt
    have h2 := i.2.isLt
    omega)).symm
  rw [e0, e8]
  exact tri_bind (s (0, 0)) fun _ => tri_bind (s (0, 1)) fun _ => tri_bind (s (0, 2)) fun _ => tri_bind (s (0, 3)) fun _ =>
    tri_bind (s (1, 0)) fun _ => tri_bind (s (1, 1)) fun _ => tri_bind (s (1, 2)) fun _ => s (1, 3)

theorem st_fill {o : Fin 2 → ℕ} {h : ∀ a, o a + S512x512.size a ≤ S8192x512.size a} (e0 : o = xo 0 c 0) (e1 : o = xo 1 c 0) :
    Tri I K KS c iprop(InP I c ∗ State I c fun _ => .init) (fill o h) (fun _ => iprop(InP I c ∗ State I c fun _ => .filled)) := by
  unfold fill
  refine tri_reads ?_
  have p0 : part (xAt I c o h) (wAt I c 0) = prodAt I 0 c 0 := by subst e0; rfl
  have p1 : part (xAt I c o h) (wAt I c 1) = prodAt I 1 c 0 := by
    have : ∀ o' h', o = o' → part (xAt I c o h) (wAt I c 1) = part (xAt I c o' h') (wAt I c 1) := fun o' h' e => by subst e; rfl
    exact this _ (xo_inb 1 c 0) e1
  rw [p0, p1]
  exact st_eight .init .filled (fun j => initPart j.1 j.2 (prodAt I j.1 c 0)) fun j O => stp_init

theorem st_signalAll0 : Tri I K KS c (State I c fun _ => .filled) (signalAll c) (fun _ => State I c fun _ => .sig1) :=
  st_eight .filled .sig1 (fun j => semSignalWord (fromD j.1 c) (credSems j.1 j.2).sem 1#32) fun j O => stp_sig0
theorem st_signalAll1 : Tri I K KS c (State I c fun _ => .sig1) (signalAll c) (fun _ => State I c fun _ => .rdy 0) :=
  st_eight .sig1 (.rdy 0) (fun j => semSignalWord (fromD j.1 c) (credSems j.1 j.2).sem 1#32) fun j O => stp_sig1

/-- The signal to the neighbour in front or behind. -/
theorem tri_barSignal (ρ : Fin 2) {O : CellTallies nD τ sig ℕ} :
    Tri I K KS c iprop(dutyTok ER (cell (fromD ρ c) barK) 0 ρ.val ∗ Owe (F := F) c (O + tallyAt (cell (fromD ρ c) barK) 0 1))
      (semSignalWord (fromD ρ c) barS.sem 1#32) (fun _ => Owe (F := F) c O) := by
  unfold Tri semSignalWord Owe
  iintro ⟨#HC, Ht, ⟨%W, HO⟩⟩
  iapply (Rounds.wp_signal 𝒱₀ ER (Rd I) (c : Thread nD τ) none (dst := (fromD ρ c : Thread nD τ)) (sem := barS.sem)
      (κ := K (fromD ρ c, barK)) (r := 0) (d := ρ.val)
      (by
        have : ρ.val ∈ (Rd I).duties (cell (fromD ρ c) barK) 0 := by
          rw [duties_cell]
          have : ∀ ρ : Fin 2, ρ.val ∈ dutiesK barK 0 := by decide
          exact this ρ
        exact this)
      ((amount_cell I (fromD ρ c) barK 0 ρ.val).trans ((show amountK barK = 1 from rfl).trans (by decide))) 0 O rfl (W := W)) $$ [HO Ht]
  · isplitr; · iapply (Ctx_cell I K KS (fromD ρ c) barK); iexact HC
    isplitl [HO]; · iexact HO
    isplitl [Ht]; · iexact Ht
    isplitr
    · iapply (show (emp : sProp 𝕄) ⊢ (Rd I).payload ((fromD ρ c : Thread nD τ), .reg barS.sem) 0 ρ.val from
        Entails.of_eq (payload_cell I (fromD ρ c) barK 0 ρ.val).symm)
      iempintro
    iapply (Ctx_reached I K KS (fromD ρ c) barK); iexact HC
  iintro HO
  rw [wp_ret]
  imodintro
  iexists W; iexact HO

theorem tri_barWait {O : CellTallies nD τ sig ℕ} (hO : Above 1 O) :
    Tri I K KS c iprop(cred (tallyAt (cell c barK) 0 2) ∗ atPos ER (cell c barK) 0 ∅ 0 ∗ Owe (F := F) c O)
      (semWaitWord barS.sem 2#32) (fun _ => iprop(atPos ER (cell c barK) 1 ∅ 0 ∗ Owe (F := F) c O)) := by
  unfold Tri semWaitWord Owe
  iintro ⟨#HC, Hc, Hat, ⟨%W, HO⟩⟩
  iapply (Rounds.wp_wait_rest_token 𝒱₀ ER (Rd I) (c : Thread nD τ) none (κ := K (c, barK)) (sm := csem barK) (k' := 2)
      (wpE_semWait_eq 𝒱₀ (c : Thread nD τ) none Set.univ) (Set.mem_univ _) 0
      (O := O) (W := W) (R := 0) (m := 0) (T := ∅) (by rw [expect_cell I c barK 0]; rfl)) $$ [Hc Hat HO]
  · isplitr; · iapply (Ctx_cell I K KS c barK); iexact HC
    isplitl [Hc]; · iexact Hc
    isplitl [HO]; · iexact HO
    isplitr
    · iapply (mayWait_ctx barK (by decide) hO); iexact HC
    iexact Hat
  iintro ⟨HO, Hat, -, -⟩
  rw [wp_ret]
  imodintro
  isplitl [Hat]; · iexact Hat
  iexists _; iexact HO

variable (c) in
/-- What meeting the neighbours takes. -/
def MeetP : sProp 𝕄 :=
  iprop(dutyTok ER (cell (fromD 0 c) barK) 0 0 ∗ dutyTok ER (cell (fromD 1 c) barK) 0 1
    ∗ cred (tallyAt (cell c barK) 0 2) ∗ atPos ER (cell c barK) 0 ∅ 0)

variable (c) in
/-- What device `c` owes at first: its hops and credits, and a signal to each neighbour. -/
def O₀ : CellTallies nD τ sig ℕ :=
  ((∑ j, OSp c j .init) + tallyAt (cell (fromD 1 c) barK) 0 1) + tallyAt (cell (fromD 0 c) barK) 0 1

theorem tri_meet : Tri I K KS c iprop(MeetP (F := F) c ∗ Owe (F := F) c (O₀ c)) (meet c)
    (fun _ => iprop(atPos ER (cell c barK) 1 ∅ 0 ∗ Owe (F := F) c (∑ j, OSp c j .init))) := by
  unfold meet
  refine tri_bind (tri_conseq (R := iprop(dutyTok ER (cell (fromD 1 c) barK) 0 1 ∗ cred (tallyAt (cell c barK) 0 2) ∗ atPos ER (cell c barK) 0 ∅ 0)) ?_
    (tri_barSignal 0 (O := (∑ j, OSp c j .init) + tallyAt (cell (fromD 1 c) barK) 0 1)) fun _ => BI.Entails.refl _) fun _ => ?_
  · unfold MeetP
    iintro ⟨⟨H0, H1, Hc, Ha⟩, HO⟩
    isplitl [H0 HO]
    · isplitl [H0]; · iexact H0
      iexact HO
    isplitl [H1]; · iexact H1
    isplitl [Hc]; · iexact Hc
    iexact Ha
  refine tri_bind (tri_conseq (R := iprop(cred (tallyAt (cell c barK) 0 2) ∗ atPos ER (cell c barK) 0 ∅ 0)) ?_
    (tri_barSignal 1 (O := ∑ j, OSp c j .init)) fun _ => BI.Entails.refl _) fun _ => ?_
  · iintro ⟨HO, H1, Hr⟩
    isplitl [H1 HO]
    · isplitl [H1]; · iexact H1
      iexact HO
    iexact Hr
  refine tri_pre ?_ (tri_barWait (state_above (st := fun _ => .init) fun i => ⟨by decide, by decide⟩))
  iintro ⟨HO, Hc, Ha⟩
  isplitl [Hc]; · iexact Hc
  isplitl [Ha]; · iexact Ha
  iexact HO

/-! ## The whole body -/

variable (I c) in
/-- What the body begins with. -/
def Pre : sProp 𝕄 :=
  iprop(MeetP (F := F) c ∗ InP I c ∗ (bigSep Finset.univ fun j => CS I c j .init) ∗ Sto I c 15 ∗ Owe (F := F) c (O₀ c))
variable (I c) in
/-- What it ends with. -/
def Post : sProp 𝕄 :=
  iprop(atPos ER (cell c barK) 1 ∅ 0 ∗ InP I c ∗ (State I c fun _ => .got 29) ∗ Sto I c 31)

theorem st_prologue : Tri I K KS c (Pre I c) (prologue c)
    (fun _ => iprop((InP I c ∗ State I c fun _ => .fly 0) ∗ Sto I c 15 ∗ atPos ER (cell c barK) 1 ∅ 0)) := by
  unfold prologue
  refine tri_bind (tri_conseq (R := iprop(InP I c ∗ (bigSep Finset.univ fun j => CS I c j .init) ∗ Sto I c 15)) ?_ tri_meet fun _ => BI.Entails.refl _) fun _ => ?_
  · unfold Pre
    iintro ⟨HM, Hi, HB, Hs, HO⟩
    isplitl [HM HO]
    · isplitl [HM]; · iexact HM
      iexact HO
    isplitl [Hi]; · iexact Hi
    isplitl [HB]; · iexact HB
    iexact Hs
  refine tri_pre (P := iprop((InP I c ∗ State I c fun _ => .init) ∗ Sto I c 15 ∗ atPos ER (cell c barK) 1 ∅ 0)) ?_ ?_
  · unfold State
    iintro ⟨⟨Ha, HO⟩, Hi, HB, Hs⟩
    isplitl [Hi HB HO]
    · isplitl [Hi]; · iexact Hi
      isplitl [HB]; · iexact HB
      iexact HO
    isplitl [Hs]; · iexact Hs
    iexact Ha
  have in0 : ∀ {p q : Ph} {e : Pg F PUnit}, Tri I K KS c (State I c fun _ => p) e (fun _ => State I c fun _ => q) →
      Tri I K KS c iprop((InP I c ∗ State I c fun _ => p) ∗ Sto I c 15 ∗ atPos ER (cell c barK) 1 ∅ 0) e
        (fun _ => iprop((InP I c ∗ State I c fun _ => q) ∗ Sto I c 15 ∗ atPos ER (cell c barK) 1 ∅ 0)) := fun h =>
    tri_frame (tri_conseq sep_comm.1 h fun _ => sep_comm.1) _
  refine tri_bind (tri_frame (st_fill (off1 c) (off1' c)) _) fun _ => ?_
  refine tri_bind (in0 st_signalAll0) fun _ => ?_
  refine tri_bind (in0 st_signalAll1) fun _ => ?_
  exact in0 st_startAll

theorem tri_core : Tri I K KS c (Pre I c) (core c) (fun _ => Post I c) := by
  unfold core
  refine tri_bind st_prologue fun _ => ?_
  refine tri_bind (tri_frame (tri_loop k0_t1_loop k0_t1_ok (fun t _ => rsTrip c t) (fun n => iprop(InP I c ∗ State I c fun _ => .fly (3 * n))) trips1 st_rsTrip) _) fun _ => ?_
  refine tri_bind (tri_frame st_rsTail _) fun _ => ?_
  refine tri_conseq (P := iprop((State I c fun _ => .fly 15) ∗ Sto I c 15)) (R := iprop(InP I c ∗ atPos ER (cell c barK) 1 ∅ 0))
    (Q := fun _ => iprop((State I c fun _ => .got 29) ∗ Sto I c 31)) ?_ ?_ fun _ => ?_
  · iintro ⟨⟨Hi, HS⟩, Hs, Ha⟩
    isplitl [HS Hs]
    · isplitl [HS]; · iexact HS
      iexact Hs
    isplitl [Hi]; · iexact Hi
    iexact Ha
  · refine tri_bind (st_agLast (n := 15) (by omega) (by omega) (holds_fly 15) (off8 c) (off9 c) rfl) fun _ => ?_
    refine tri_bind (tri_loop k0_t2_loop k0_t2_ok (fun t _ => agTrip c t) (fun n => iprop((State I c fun _ => .fly (3 * n + 15)) ∗ Sto I c (3 * n + 16))) trips2 st_agTrip) fun _ => ?_
    exact st_agTail
  · unfold Post
    iintro ⟨⟨HS, Hs⟩, Hi, Ha⟩
    isplitl [Ha]; · iexact Ha
    isplitl [Hi]; · iexact Hi
    isplitl [HS]; · iexact HS
    iexact Hs

end Cert.KernelIdeal.Ring

end
-- ==== Proof.End.lean ====
/- The end of the body on one device: its semaphores back at zero and its buffers whole. -/
module

public import proofs.«01_k».proof.Proof.Body
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## A three-slot buffer, whole and as its slots -/

/-- Slot `s` is the positions whose first coordinate is `s`. -/
theorem mem_slot (ρ : Fin 2) (k : Fin 4) (s : Fin 3) (x : S3x128x2048.Idx) :
    (commM ρ k).view.emb x ∈ (slotM ρ k s).view.set ↔ (x 0).val = s.val := by
  rw [slot_set, View.set_slice, Finset.mem_map', Rect.mem_set_unit]
  constructor
  · intro h
    have h0 : s.val ≤ (x 0).val ∧ (x 0).val < s.val + 1 := h 0
    omega
  · intro h a
    match a with
    | 0 => exact (show s.val ≤ (x 0).val ∧ (x 0).val < s.val + 1 from ⟨by omega, by omega⟩)
    | 1 => exact ⟨Nat.zero_le _, (show (x 1).val < 0 + 128 from by have : (x 1).val < 128 := (x 1).isLt; omega)⟩
    | 2 => exact ⟨Nat.zero_le _, (show (x 2).val < 0 + 2048 from by have : (x 2).val < 2048 := (x 2).isLt; omega)⟩

/-- Every position of the buffer is one of its block's. -/
theorem comm_surj (ρ : Fin 2) (k : Fin 4) (i : (commM ρ k).view.ty.shape.Idx) : ∃ x, (commM ρ k).view.emb x = i := by
  have h : i ∈ (commM ρ k).view.set := by rw [(commM_whole ρ k).set_eq_univ]; exact Finset.mem_univ i
  obtain ⟨x, -, hx⟩ := Finset.mem_map.mp h
  exact ⟨x, hx⟩

theorem slot_one_sub (ρ : Fin 2) (k : Fin 4) : (slotM ρ k 1).view.set ⊆ Finset.univ \ (slotM ρ k 0).view.set := fun i hi => by
  obtain ⟨x, rfl⟩ := comm_surj ρ k i
  refine Finset.mem_sdiff.mpr ⟨Finset.mem_univ _, fun h => ?_⟩
  have h1 := (mem_slot ρ k 1 x).mp hi
  have h0 := (mem_slot ρ k 0 x).mp h
  rw [h0] at h1
  exact absurd h1 (by decide)

theorem slot_two_eq (ρ : Fin 2) (k : Fin 4) :
    (Finset.univ \ (slotM ρ k 0).view.set) \ (slotM ρ k 1).view.set = (slotM ρ k 2).view.set := Finset.ext fun i => by
  obtain ⟨x, rfl⟩ := comm_surj ρ k i
  have hlt : (x 0).val < 3 := (x 0).isLt
  constructor
  · intro h
    obtain ⟨h01, h1⟩ := Finset.mem_sdiff.mp h
    have h0 := (Finset.mem_sdiff.mp h01).2
    refine (mem_slot ρ k 2 x).mpr ?_
    have n0 : (x 0).val ≠ 0 := fun e => h0 ((mem_slot ρ k 0 x).mpr e)
    have n1 : (x 0).val ≠ 1 := fun e => h1 ((mem_slot ρ k 1 x).mpr e)
    show (x 0).val = 2
    omega
  · intro h
    have h2 : (x 0).val = 2 := (mem_slot ρ k 2 x).mp h
    refine Finset.mem_sdiff.mpr ⟨Finset.mem_sdiff.mpr ⟨Finset.mem_univ _, fun h0 => ?_⟩, fun h1 => ?_⟩
    · have e : (x 0).val = 0 := (mem_slot ρ k 0 x).mp h0
      omega
    · have e : (x 0).val = 1 := (mem_slot ρ k 1 x).mp h1
      omega

theorem slot_two_pts (c : Dev nD) (ρ : Fin 2) (k : Fin 4) (f : Buf (Elt F) ((commM ρ k).view.loc (c : Thread nD τ))) :
    ((commM ρ k).view.loc (c : Thread nD τ) ↦[(Finset.univ \ (slotM ρ k 0).view.set) \ (slotM ρ k 1).view.set]{fullShare} f : sProp 𝕄)
      = ((commM ρ k).view.loc (c : Thread nD τ) ↦[(slotM ρ k 2).view.set]{fullShare} f) :=
  congrArg (fun S => ((commM ρ k).view.loc (c : Thread nD τ) ↦[S]{fullShare} f : sProp 𝕄)) (slot_two_eq ρ k)

/-- The whole buffer of a chain, whatever it holds. -/
def CommA (c : Dev nD) (j : Ch) : sProp 𝕄 :=
  iprop(∃ f : Buf (Elt F) ((commM j.1 j.2).view.loc (c : Thread nD τ)), ((commM j.1 j.2).view.loc (c : Thread nD τ)) ↦{fullShare} f)

theorem comm_split (c : Dev nD) (j : Ch) : CommA (F := F) c j ⊢ iprop(slotA (F := F) (c, j, 0) ∗ slotA (F := F) (c, j, 1) ∗ slotA (F := F) (c, j, 2)) := by
  obtain ⟨ρ, k⟩ := j
  unfold CommA slotA
  iintro ⟨%f, H⟩
  ihave H := (pointsTo_split_subset (ℓ := (commM ρ k).view.loc (c : Thread nD τ)) (q := fullShare) (f := f) (I := (slotM ρ k 0).view.set) (S := Finset.univ) (Finset.subset_univ _)).1 $$ H
  icases H with ⟨H0, H⟩
  ihave H := (pointsTo_split_subset (ℓ := (commM ρ k).view.loc (c : Thread nD τ)) (q := fullShare) (f := f) (I := (slotM ρ k 1).view.set) (S := Finset.univ \ (slotM ρ k 0).view.set) (slot_one_sub ρ k)).1 $$ H
  icases H with ⟨H1, H2⟩
  isplitl [H0]; · iexists f; iexact H0
  isplitl [H1]; · iexists f; iexact H1
  iexists f
  iapply (Entails.of_eq (slot_two_pts c ρ k f))
  iexact H2

theorem comm_join (c : Dev nD) (j : Ch) : iprop(slotA (F := F) (c, j, 0) ∗ slotA (F := F) (c, j, 1) ∗ slotA (F := F) (c, j, 2)) ⊢ CommA (F := F) c j := by
  obtain ⟨ρ, k⟩ := j
  unfold CommA slotA
  iintro ⟨⟨%f0, H0⟩, ⟨%f1, H1⟩, %f2, H2⟩
  ihave H := (show iprop(((commM ρ k).view.loc (c : Thread nD τ) ↦[(slotM ρ k 1).view.set]{fullShare} f1)
      ∗ ((commM ρ k).view.loc (c : Thread nD τ) ↦[(slotM ρ k 2).view.set]{fullShare} f2)) ⊢ (_ : sProp 𝕄) from
    (sep_mono_right (Entails.of_eq (slot_two_pts c ρ k f2).symm)).trans
      (pointsTo_join_subset (ℓ := (commM ρ k).view.loc (c : Thread nD τ)) (q := fullShare) (I := (slotM ρ k 1).view.set) (S := Finset.univ \ (slotM ρ k 0).view.set) (slot_one_sub ρ k))) $$ [H1 H2]
  · isplitl [H1]; · iexact H1
    iexact H2
  ihave H := (pointsTo_join_subset (ℓ := (commM ρ k).view.loc (c : Thread nD τ)) (q := fullShare) (I := (slotM ρ k 0).view.set) (S := Finset.univ) (Finset.subset_univ _)) $$ [H0 H]
  · isplitl [H0]; · iexact H0
    iexact H
  iexists _
  iexact H

/-! ## The buffers of the kernel -/

variable (c : Dev nD)

theorem big_ch (Φ : Ch → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [((0, 0) : Ch), (0, 1), (0, 2), (0, 3), (1, 0), (1, 1), (1, 2), (1, 3)] (by decide) (by decide) Φ

/-- The kernel's own buffers, whatever they hold. -/
def Bufs : sProp 𝕄 := iprop((bigSep Finset.univ fun j => CommA (F := F) c j) ∗ StA (F := F) c 0 ∗ StA (F := F) c 1)

theorem StA_eq (ρ : Fin 2) : StA (F := F) c ρ = iprop(∃ f : StC F ρ, ((stageM ρ).view.loc (c : Thread nD τ) ↦{fullShare} f)) := by
  unfold StA; rw [(stageM_whole ρ).set_eq_univ]

theorem bufs_eq : (Pipeline.scopedRest cfg0.spec c : sProp 𝕄) ⊣⊢ Bufs c := by
  rw [scopedRest0_eq]
  unfold Bufs CommA
  rw [big_ch, StA_eq, StA_eq]
  constructor
  · iintro ⟨H0, H1, H2, H3, H4, H5, H6, H7, H8, H9⟩
    isplitr [H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    iexact H9
  · iintro ⟨⟨H0, H1, H2, H3, H4, H5, H6, H7⟩, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The semaphores closed -/

/-- The semaphores of the kernel's own: those the devices share but the barrier, and those of the stores. -/
def osem : ((Ch × Fin 3) ⊕ (Ch × Fin 3) ⊕ Ch) ⊕ Fin 2 → SemLoc sig
  | .inl k => csem (.inr k)
  | .inr ρ => .dma (outSems ρ).sem

variable {I : Ins F} {K : Dev nD × Kind → ℕ} {KS : Key → ℕ}

/-- A semaphore with no more rounds to come is at zero. -/
theorem close (κ : Kind) (R : ℕ) (hR : ∀ r, R ≤ r → dutiesK κ r = ∅) :
    iprop(Ctx I K KS ∗ atPos ER (cell c κ) R ∅ 0) ⊢ (|={Set.univ}=> semVal (cell c κ) 0 : sProp 𝕄) :=
  (sep_mono_left (Ctx_cell I K KS c κ)).trans
    (Rounds.cell_close ER (Rd I) (Set.mem_univ (K (c, κ))) (fun h => h) fun r hr => by rw [duties_cell]; exact hR r hr)

theorem close_hop (j : Ch) {i : ℕ} (hi : i / 3 = 10) :
    iprop(Ctx I K KS ∗ PosAt (F := F) c j i)
      ⊢ (|={Set.univ}=> (semVal (cell c (sendK j (sl i))) 0 ∗ semVal (cell c (recvK j (sl (i + 1)))) 0) : sProp 𝕄) := by
  unfold PosAt
  rw [hi]
  iintro ⟨#HC, Hs, Hr⟩
  imod (close c (sendK j (sl i)) 10 (fun r hr => if_neg (by omega)) (I := I) (K := K) (KS := KS)) $$ [Hs] with Hs
  · isplitr; · iexact HC
    iexact Hs
  imod (close c (recvK j (sl (i + 1))) 10 (fun r hr => if_neg (by omega)) (I := I) (K := K) (KS := KS)) $$ [Hr] with Hr
  · isplitr; · iexact HC
    iexact Hr
  imodintro
  isplitl [Hs]; · iexact Hs
  iexact Hr

theorem close_cred (j : Ch) : iprop(Ctx I K KS ∗ CredPos (F := F) c j 30) ⊢ (|={Set.univ}=> semVal (cell c (credK j)) 0 : sProp 𝕄) := by
  unfold CredPos
  iintro ⟨#HC, %S, %hS, Hat, -⟩
  obtain rfl : S = Finset.range 30 := Finset.eq_of_subset_of_card_le hS.1 (by rw [Finset.card_range]; exact hS.2)
  imod (Rounds.fupd_skip ER (Rd I) (κ := K (c, credK j)) (g := cell c (credK j)) (R := 0) (m := 30) (T := Finset.range 30)
    (by rw [duties_cell]; exact Finset.Subset.refl _) (by rw [expect_cell]; rfl) (Set.mem_univ _)) $$ [Hat] with ⟨Hat, -⟩
  · isplitr; · iapply (Ctx_cell I K KS c (credK j)); iexact HC
    iexact Hat
  iapply (close c (credK j) 1 (fun r hr => if_neg (by omega)) (I := I) (K := K) (KS := KS))
  isplitr; · iexact HC
  iexact Hat

/-- A chain's semaphores at zero. -/
def Zeros (j : Ch) : sProp 𝕄 :=
  iprop((bigSep Finset.univ fun s => semVal (cell c (sendK j s)) 0) ∗ (bigSep Finset.univ fun s => semVal (cell c (recvK j s)) 0) ∗ semVal (cell c (credK j)) 0)

theorem big_three (Φ : Fin 3 → sProp 𝕄) : bigSep Finset.univ Φ = iprop(Φ 0 ∗ Φ 1 ∗ Φ 2) :=
  bigSep_univ_eq_bigSepL [(0 : Fin 3), 1, 2] (by decide) (by decide) Φ

theorem chain_end (j : Ch) : iprop(Ctx I K KS ∗ CS I c j (.got 29)) ⊢ (|={Set.univ}=> (CommA c j ∗ Zeros c j) : sProp 𝕄) := by
  dsimp only [CS]
  unfold Base Pos Ext
  rw [if_pos rfl]
  iintro ⟨#HC, ⟨-, -, HP, -, ⟨P0, P1, P2, -⟩, -, -⟩, H0, H2, H1⟩
  imod (close_cred c j (I := I) (K := K) (KS := KS)) $$ [HP] with HP
  · isplitr; · iexact HC
    iexact HP
  imod (close_hop c j (i := 30) rfl (I := I) (K := K) (KS := KS)) $$ [P0] with ⟨S0, R1⟩
  · isplitr; · iexact HC
    iexact P0
  imod (close_hop c j (i := 31) rfl (I := I) (K := K) (KS := KS)) $$ [P1] with ⟨S1, R2⟩
  · isplitr; · iexact HC
    iexact P1
  imod (close_hop c j (i := 32) rfl (I := I) (K := K) (KS := KS)) $$ [P2] with ⟨S2, R0⟩
  · isplitr; · iexact HC
    iexact P2
  imodintro
  isplitl [H0 H1 H2]
  · iapply (comm_join c j)
    isplitl [H0]; · iapply (slotV_any c j 0 (cont I j 29 (fromD j.1 c))); iexact H0
    isplitl [H1]; · iexact H1
    iexact H2
  unfold Zeros
  rw [big_three, big_three]
  isplitl [S0 S1 S2]
  · isplitl [S0]; · iexact S0
    isplitl [S1]; · iexact S1
    iexact S2
  isplitl [R0 R1 R2]
  · isplitl [R0]; · iexact R0
    isplitl [R1]; · iexact R1
    iexact R2
  iexact HP

theorem own_eq : (Pipeline.ownSems0 osem c : sProp 𝕄)
    = iprop(((bigSep Finset.univ fun j : Ch => bigSep Finset.univ fun s : Fin 3 => semVal (cell c (sendK j s)) 0)
        ∗ (bigSep Finset.univ fun j : Ch => bigSep Finset.univ fun s : Fin 3 => semVal (cell c (recvK j s)) 0)
        ∗ (bigSep Finset.univ fun j : Ch => semVal (cell c (credK j)) 0)) ∗ OSem (F := F) c) := by
  unfold Pipeline.ownSems0 OSem
  rw [bigSep_univ_sum, bigSep_univ_sum, bigSep_univ_sum,
    bigSep_univ_prod (fun a : Ch × Fin 3 => (semVal ((c.tc : Thread nD τ), osem (.inl (.inl a))) 0 : sProp 𝕄)),
    bigSep_univ_prod (fun a : Ch × Fin 3 => (semVal ((c.tc : Thread nD τ), osem (.inl (.inr (.inl a)))) 0 : sProp 𝕄))]
  rw [bigSep_univ_eq_bigSepL [(0 : Fin 2), 1] (by decide) (by decide) (fun b : Fin 2 => (semVal ((c.tc : Thread nD τ), osem (.inr b)) 0 : sProp 𝕄))]
  rfl

theorem zeros_own : iprop((bigSep Finset.univ fun j => Zeros (F := F) c j) ∗ OSem (F := F) c) ⊢ (Pipeline.ownSems0 osem c : sProp 𝕄) := by
  rw [own_eq]
  unfold Zeros
  rw [bigSep_sep', bigSep_sep']

/-- What device `c`'s core is left with. -/
def Left (I : Ins F) (c : Dev nD) : sProp 𝕄 :=
  iprop((semVal (cell c barK) 0 ∗ OutP I c 31) ∗ Pipeline.ownSems0 osem c ∗ Pipeline.scopedRest cfg0.spec c)

theorem owes_end : (∑ j, OSp c j (.got 29)) = 0 := Finset.sum_eq_zero fun j _ => by
  unfold OSp OS
  show (∑ i ∈ Finset.Ico 30 30, _) + (∑ i ∈ Finset.Ico 30 30, _) = _
  rw [Finset.Ico_self, Finset.sum_empty, Finset.sum_empty, add_zero]

theorem post_end : iprop(Ctx I K KS ∗ Post I c) ⊢ (|={Set.univ}=> (Left I c ∗ InP I c ∗ Owe c 0) : sProp 𝕄) := by
  unfold Post State Sto
  iintro ⟨#HC, Hb, Hi, ⟨Hch, HO⟩, T0, T1, Ho, Hout⟩
  imod (close c barK 1 (fun r hr => if_neg (by omega)) (I := I) (K := K) (KS := KS)) $$ [Hb] with Hb
  · isplitr; · iexact HC
    iexact Hb
  imod (show iprop(Ctx I K KS ∗ bigSep Finset.univ fun j => CS I c j (.got 29)) ⊢ (|={Set.univ}=> bigSep Finset.univ fun j => iprop(CommA c j ∗ Zeros c j) : sProp 𝕄) from
    (sep_mono_left (BI.bigSep_of_persistent Finset.univ (Ctx I K KS))).trans (by
      rw [← bigSep_sep']
      exact (bigSep_mono fun j _ => chain_end c j).trans (bigSep_fupd _ _))) $$ [Hch] with Hch
  · isplitr; · iexact HC
    iexact Hch
  imodintro
  ihave H := (Entails.of_eq (bigSep_sep' Finset.univ (fun j : Ch => (CommA (F := F) c j)) (fun j => Zeros (F := F) c j))) $$ Hch
  icases H with ⟨HB, HZ⟩
  rw [owes_end]
  unfold Left
  isplitr [Hi HO]
  · isplitl [Hb Hout]
    · isplitl [Hb]; · iexact Hb
      iexact Hout
    isplitl [HZ Ho]
    · iapply (zeros_own c)
      isplitl [HZ]; · iexact HZ
      iexact Ho
    iapply (bufs_eq c).2
    unfold Bufs
    isplitl [HB]; · iexact HB
    isplitl [T0]; · iexact T0
    iexact T1
  isplitl [Hi]; · iexact Hi
  iexact HO

end Cert.KernelIdeal.Ring

end
-- ==== Proof.Fund.lean ====
/- What the launch deals each device: its part of the protocol's tokens, positions and credits. -/
module

public import proofs.«01_k».proof.Proof.End

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## What is minted, and to whom it goes -/

/-- A device's payments: the two barrier signals; per chain and hop the block sent, the block landed, the credit. -/
abbrev TokIx := Fin 2 ⊕ (Ch × Fin 30) ⊕ (Ch × Fin 30) ⊕ (Ch × Fin 30)

/-- The unit a payment makes: on whose semaphore, of which kind, in which round, which of the round's. -/
def payTo (c : Dev nD) : TokIx → (Dev nD × Kind) × ℕ × ℕ
  | .inl ρ => ((fromD ρ c, barK), 0, ρ.val)
  | .inr (.inl (j, i)) => ((c, sendK j (sl i.val)), i.val / 3, 0)
  | .inr (.inr (.inl (j, i))) => ((toD j.1 c, recvK j (sl (i.val + 1))), i.val / 3, 0)
  | .inr (.inr (.inr (j, i))) => ((fromD j.1 c, credK j), 0, i.val)

theorem hop_of {i i' : ℕ} (h : sl i = sl i') (h' : i / 3 = i' / 3) : i = i' := by
  rw [← hopS_sl i, ← hopS_sl i', h, h']
theorem hop_of' {i i' : ℕ} (h : sl (i + 1) = sl (i' + 1)) (h' : i / 3 = i' / 3) : i = i' := by
  rw [← hopR_sl i, ← hopR_sl i', h, h']

theorem payTo_inj : Function.Injective (fun x : Dev nD × TokIx => payTo x.1 x.2) := by
  rintro ⟨c, t⟩ ⟨c', t'⟩ h
  have hk : (payTo c t).1.2 = (payTo c' t').1.2 := congrArg (fun y : (Dev nD × Kind) × ℕ × ℕ => y.1.2) h
  have hd : (payTo c t).1.1 = (payTo c' t').1.1 := congrArg (fun y : (Dev nD × Kind) × ℕ × ℕ => y.1.1) h
  have hr : (payTo c t).2.1 = (payTo c' t').2.1 := congrArg (fun y : (Dev nD × Kind) × ℕ × ℕ => y.2.1) h
  have hn : (payTo c t).2.2 = (payTo c' t').2.2 := congrArg (fun y : (Dev nD × Kind) × ℕ × ℕ => y.2.2) h
  match t, t' with
  | .inl ρ, .inl ρ' =>
    obtain rfl : ρ = ρ' := Fin.ext hn
    obtain rfl : c = c' := (ringE ρ).symm.injective hd
    rfl
  | .inr (.inl (j, i)), .inr (.inl (j', i')) =>
    obtain rfl : c = c' := hd
    have e := Sum.inl.inj (Sum.inr.inj hk)
    obtain rfl : j = j' := congrArg Prod.fst e
    obtain rfl : i = i' := Fin.ext (hop_of (congrArg Prod.snd e) hr)
    rfl
  | .inr (.inr (.inl (j, i))), .inr (.inr (.inl (j', i'))) =>
    have e := Sum.inl.inj (Sum.inr.inj (Sum.inr.inj hk))
    obtain rfl : j = j' := congrArg Prod.fst e
    obtain rfl : c = c' := (ringE j.1).injective hd
    obtain rfl : i = i' := Fin.ext (hop_of' (congrArg Prod.snd e) hr)
    rfl
  | .inr (.inr (.inr (j, i))), .inr (.inr (.inr (j', i'))) =>
    obtain rfl : j = j' := Sum.inr.inj (Sum.inr.inj (Sum.inr.inj hk))
    obtain rfl : c = c' := (ringE j.1).symm.injective hd
    obtain rfl : i = i' := Fin.ext hn
    rfl
  | .inl _, .inr (.inl _) => cases hk
  | .inl _, .inr (.inr (.inl _)) => cases hk
  | .inl _, .inr (.inr (.inr _)) => cases hk
  | .inr (.inl _), .inl _ => cases hk
  | .inr (.inl _), .inr (.inr (.inl _)) => cases hk
  | .inr (.inl _), .inr (.inr (.inr _)) => cases hk
  | .inr (.inr (.inl _)), .inl _ => cases hk
  | .inr (.inr (.inl _)), .inr (.inl _) => cases hk
  | .inr (.inr (.inl _)), .inr (.inr (.inr _)) => cases hk
  | .inr (.inr (.inr _)), .inl _ => cases hk
  | .inr (.inr (.inr _)), .inr (.inl _) => cases hk
  | .inr (.inr (.inr _)), .inr (.inr (.inl _)) => cases hk

def tokOf (x : Dev nD × TokIx) : GSem nD τ sig × ℕ × ℕ := (cell (payTo x.1 x.2).1.1 (payTo x.1 x.2).1.2, (payTo x.1 x.2).2)

theorem tokOf_inj : Function.Injective tokOf := fun x y h => by
  have h1 : (payTo x.1 x.2).1 = (payTo y.1 y.2).1 := cell_inj (congrArg (fun z : GSem nD τ sig × ℕ × ℕ => z.1) h)
  have h2 : (payTo x.1 x.2).2 = (payTo y.1 y.2).2 := congrArg (fun z : GSem nD τ sig × ℕ × ℕ => z.2) h
  exact payTo_inj (Prod.ext h1 h2)

def ringCells : Finset (GSem nD τ sig) := Finset.univ.map ⟨fun x : Dev nD × Kind => cell x.1 x.2, cell_inj⟩
def ringToks : Finset (GSem nD τ sig × ℕ × ℕ) := Finset.univ.map ⟨tokOf, tokOf_inj⟩

/-- The right to write: chain and hop, of the device that sends. -/
def writeOf (x : Dev nD × Ch × Fin 30) : Key × ℕ := ((toD x.2.1.1 x.1, x.2.1, sl (x.2.2.val + 1)), x.2.2.val / 3)

theorem writeOf_inj : Function.Injective writeOf := by
  rintro ⟨c, j, i⟩ ⟨c', j', i'⟩ h
  obtain rfl : j = j' := congrArg (fun y : Key × ℕ => y.1.2.1) h
  obtain rfl : c = c' := (ringE j.1).injective (congrArg (fun y : Key × ℕ => y.1.1) h)
  obtain rfl : i = i' := Fin.ext (hop_of' (congrArg (fun y : Key × ℕ => y.1.2.2) h) (congrArg (fun y : Key × ℕ => y.2) h))
  rfl

theorem writeOf_sub : Finset.univ.map ⟨writeOf, writeOf_inj⟩ ⊆ (Finset.univ : Finset Key) ×ˢ Finset.range 10 := fun y hy => by
  obtain ⟨x, -, rfl⟩ := Finset.mem_map.mp hy
  refine Finset.mem_product.mpr ⟨Finset.mem_univ _, Finset.mem_range.mpr ?_⟩
  show x.2.2.val / 3 < 10
  have := x.2.2.isLt
  omega

def u₀ : UU :=
  (initOf (Pipeline.cells cfgs cellOf_inj) (Pipeline.launchToks cfgs cellOf_inj),
    (initOf ringCells ringToks, (Release.initSlots (Finset.univ : Finset Key) 10, (1 : Counters))))

variable (I : Ins F)

/-! ## What one device is dealt -/

/-- A device's tokens. -/
def toks (c : Dev nD) : sProp 𝕄 :=
  iprop((bigSep Finset.univ fun t : TokIx => dutyTok ER (tokOf (c, t)).1 (tokOf (c, t)).2.1 (tokOf (c, t)).2.2)
    ∗ (bigSep Finset.univ fun x : Ch × Fin 3 => Release.readerAt ES (c, x.1, x.2) 0)
    ∗ (bigSep Finset.univ fun x : Ch × Fin 30 => Release.writeTok ES (writeOf (c, x)).1 ((writeOf (c, x)).2 + 1)))

/-- That the slots have their invariants. -/
def SlotsInv : sProp 𝕄 := iprop(∃ KS : Key → ℕ, bigSep Finset.univ fun x : Key => Release.slotInv ES (KS x) x (slotA (F := F) x))
instance SlotsInv_persistent : BI.Persistent (SlotsInv (F := F)) := by unfold SlotsInv; infer_instance

/-- What device `c` is dealt before any invariant of the semaphores. -/
def G (c : Dev nD) : sProp 𝕄 :=
  iprop((bigSep Finset.univ fun κ : Kind => roundState ER (Rd I) (cell c κ) 0)
    ∗ (bigSep Finset.univ fun κ : Kind => atPos ER (cell c κ) 0 ∅ 0)
    ∗ (bigSep Finset.univ fun κ : Kind => reached ER (cell c κ) 0)
    ∗ toks (F := F) c ∗ SlotsInv (F := F))

theorem fund_rounds : BI.own (ER (initOf ringCells ringToks)) ⊢ (|==> (bigSep Finset.univ fun c : Dev nD =>
    iprop((bigSep Finset.univ fun κ : Kind => roundState ER (Rd I) (cell c κ) 0)
      ∗ (bigSep Finset.univ fun κ : Kind => atPos ER (cell c κ) 0 ∅ 0)
      ∗ (bigSep Finset.univ fun κ : Kind => reached ER (cell c κ) 0)
      ∗ (bigSep Finset.univ fun t : TokIx => dutyTok ER (tokOf (c, t)).1 (tokOf (c, t)).2.1 (tokOf (c, t)).2.2))) : sProp 𝕄) := by
  have hX (Φ : GSem nD τ sig → sProp 𝕄) : bigSep ringCells Φ = bigSep Finset.univ fun c : Dev nD => bigSep Finset.univ fun κ : Kind => Φ (cell c κ) := by
    unfold ringCells; rw [bigSep_map, bigSep_univ_prod]; rfl
  have hT (Φ : GSem nD τ sig × ℕ × ℕ → sProp 𝕄) : bigSep ringToks Φ = bigSep Finset.univ fun c : Dev nD => bigSep Finset.univ fun t : TokIx => Φ (tokOf (c, t)) := by
    unfold ringToks; rw [bigSep_map, bigSep_univ_prod]; rfl
  iintro HX
  imod (Rounds.fund ER (Rd I) ringCells ringToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq (hT fun x => dutyTok ER x.1 x.2.1 x.2.2)) $$ Htok
  rw [bigSep_sep', bigSep_sep', bigSep_sep']
  isplitl [Hst]; · iexact Hst
  isplitl [Hat]; · iexact Hat
  isplitl [Hr]; · iexact Hr
  iexact Htok

theorem fund_slots : BI.own (ES (Release.initSlots (Finset.univ : Finset Key) 10)) ⊢ (|={Set.univ}=> ((bigSep Finset.univ fun c : Dev nD =>
    iprop((bigSep Finset.univ fun x : Ch × Fin 3 => Release.readerAt ES (c, x.1, x.2) 0)
      ∗ (bigSep Finset.univ fun x : Ch × Fin 30 => Release.writeTok ES (writeOf (c, x)).1 ((writeOf (c, x)).2 + 1)))) ∗ SlotsInv (F := F)) : sProp 𝕄) := by
  iintro HX
  imod (Release.slots_init ES (Finset.univ : Finset Key) 10 (slotA (F := F)) (Es := Set.univ)) $$ HX with ⟨%KS, -, Hi, Hr, Hw⟩
  imodintro
  unfold SlotsInv
  rw [bigSep_sep']
  ihave Hw := (show (bigSep ((Finset.univ : Finset Key) ×ˢ Finset.range 10) (fun x : Key × ℕ => Release.writeTok ES x.1 (x.2 + 1)) : sProp 𝕄)
    ⊢ bigSep (Finset.univ.map ⟨writeOf, writeOf_inj⟩) (fun x : Key × ℕ => Release.writeTok ES x.1 (x.2 + 1)) from bigSep_subset writeOf_sub) $$ Hw
  isplitr [Hi]
  · isplitl [Hr]
    · iapply (Entails.of_eq (bigSep_univ_prod (fun x : Key => (Release.readerAt ES x 0 : sProp 𝕄))))
      iexact Hr
    · iapply (Entails.of_eq ((bigSep_map (s := Finset.univ) ⟨writeOf, writeOf_inj⟩ (Φ := fun x : Key × ℕ => (Release.writeTok ES x.1 (x.2 + 1) : sProp 𝕄))).trans
        (bigSep_univ_prod _)))
      iexact Hw
  iexists KS
  iexact Hi

theorem big_with {T : Type} [Fintype T] [DecidableEq T] (R : sProp 𝕄) [BI.Persistent R] {Φ Ψ : T → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem deal (c : Dev nD) :
    iprop(SlotsInv (F := F)
      ∗ ((bigSep Finset.univ fun κ : Kind => roundState ER (Rd I) (cell c κ) 0)
        ∗ (bigSep Finset.univ fun κ : Kind => atPos ER (cell c κ) 0 ∅ 0)
        ∗ (bigSep Finset.univ fun κ : Kind => reached ER (cell c κ) 0)
        ∗ (bigSep Finset.univ fun t : TokIx => dutyTok ER (tokOf (c, t)).1 (tokOf (c, t)).2.1 (tokOf (c, t)).2.2))
      ∗ (bigSep Finset.univ fun x : Ch × Fin 3 => Release.readerAt ES (c, x.1, x.2) 0)
      ∗ (bigSep Finset.univ fun x : Ch × Fin 30 => Release.writeTok ES (writeOf (c, x)).1 ((writeOf (c, x)).2 + 1)))
    ⊢ G I c := by
  unfold G toks
  iintro ⟨#HI, ⟨H1, H2, H3, H4⟩, H5, H6⟩
  isplitl [H1]; · iexact H1
  isplitl [H2]; · iexact H2
  isplitl [H3]; · iexact H3
  isplitl
  · isplitl [H4]; · iexact H4
    isplitl [H5]; · iexact H5
    iexact H6
  iexact HI

theorem fund : (ownU u₀ : sProp 𝕄) ⊢ |={Set.univ}=> iprop(BI.own (EP (F := F) (initOf (Pipeline.cells cfgs cellOf_inj) (Pipeline.launchToks cfgs cellOf_inj)))
    ∗ bigSep Finset.univ (G I)) := by
  unfold u₀
  iintro Hu
  ihave H := (ownU_pair _ _) $$ Hu
  icases H with ⟨HP, HX⟩
  ihave H := (own_pair_emb embR _ _) $$ HX
  icases H with ⟨HX, HY⟩
  ihave H := (own_pair_emb ((Emb.inr : Emb (Release.USlots Key × Counters) (URounds (GSem nD τ sig) ℕ × (Release.USlots Key × Counters))).trans embR) _ _) $$ HY
  icases H with ⟨HY, -⟩
  ihave HX := (show (BI.own ((Emb.inl.trans embR : Emb _ 𝕄) (initOf ringCells ringToks)) : sProp 𝕄) ⊢ BI.own (ER (initOf ringCells ringToks)) from BI.Entails.refl _) $$ HX
  ihave HY := (show (BI.own ((Emb.inl.trans (Emb.inr.trans embR) : Emb _ 𝕄) (Release.initSlots (Finset.univ : Finset Key) 10)) : sProp 𝕄)
    ⊢ BI.own (ES (Release.initSlots (Finset.univ : Finset Key) 10)) from BI.Entails.refl _) $$ HY
  imod (fund_rounds I) $$ HX with HR
  imod (fund_slots (F := F)) $$ HY with ⟨HS, #HI⟩
  imodintro
  isplitl [HP]; · iexact HP
  ihave HA := (Entails.of_eq (bigSep_sep' Finset.univ _ _).symm) $$ [HR HS]
  · isplitl [HR]; · iexact HR
    iexact HS
  iapply (big_with (SlotsInv (F := F)) (deal I))
  isplitr; · iexact HI
  iexact HA

end Cert.KernelIdeal.Ring

end
-- ==== Proof.Deal.lean ====
/- From what the launch deals to what the body starts from. -/
module

public import proofs.«01_k».proof.Proof.Fund

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The launch credit -/

section Credit

/-- Tallies all on one core's semaphores. -/
def OnCore (c : Dev nD) (T : CellTallies nD τ sig ℕ) : Prop := ∀ g, T g ≠ 0 → g.1 = (c.tc : Thread nD τ)

theorem onCore_add {c : Dev nD} {T T' : CellTallies nD τ sig ℕ} (h : OnCore c T) (h' : OnCore c T') : OnCore c (T + T') := fun g hg => by
  by_cases h0 : T g = 0
  · refine h' g fun h1 => hg ?_
    rw [Pi.add_apply, h0, h1, add_zero]
  · exact h g h0
theorem onCore_sum {α : Type} {c : Dev nD} {s : Finset α} {T : α → CellTallies nD τ sig ℕ} (h : ∀ a ∈ s, OnCore c (T a)) :
    OnCore c (∑ a ∈ s, T a) := by
  classical
  induction s using Finset.induction_on with
  | empty => exact fun g hg => absurd rfl hg
  | insert a s ha ih =>
    rw [Finset.sum_insert ha]
    exact onCore_add (h a (Finset.mem_insert_self _ _)) (ih fun b hb => h b (Finset.mem_insert_of_mem hb))
theorem onCore_tally (c : Dev nD) (κ : Kind) (i n : ℕ) : OnCore c (tallyAt (cell c κ) i n) := fun g hg => by
  by_contra hne
  exact hg (tallyAt_ne_cell (fun e => hne (congrArg Prod.fst e)) i n)

/-- What chain `j` of device `c` is due. -/
def Due (c : Dev nD) (j : Ch) : CellTallies nD τ sig ℕ :=
  (∑ i ∈ Finset.Ico 0 30, tallyAt (cell c (recvK j (sl (i + 1)))) i N) + ∑ i ∈ Finset.Ico 0 30, tallyAt (cell c (credK j)) i 1
/-- What device `c` is due. -/
def Dues (c : Dev nD) : CellTallies nD τ sig ℕ := (∑ j, Due c j) + tallyAt (cell c barK) 0 2

theorem dues_onCore (c : Dev nD) : OnCore c (Dues c) :=
  onCore_add (onCore_sum fun _ _ => onCore_add (onCore_sum fun _ _ => onCore_tally _ _ _ _) (onCore_sum fun _ _ => onCore_tally _ _ _ _)) (onCore_tally _ _ _ _)

/-- What is owed in all is what is due in all. -/
theorem owed_due : (∑ d, O₀ d) = ∑ d, Dues d := by
  have h1 (j : Ch) : (∑ d, OSp d j .init) = ∑ d, Due d j := by
    show (∑ d, OS d j 0 0) = _
    unfold OS Due
    rw [Finset.sum_add_distrib, Finset.sum_add_distrib]
    exact congrArg₂ (· + ·)
      (Equiv.sum_comp (ringE j.1) fun d : Dev nD => (∑ i ∈ Finset.Ico 0 30, tallyAt (cell d (recvK j (sl (i + 1)))) i N : CellTallies nD τ sig ℕ))
      (Equiv.sum_comp (ringE j.1).symm fun d : Dev nD => (∑ i ∈ Finset.Ico 0 30, tallyAt (cell d (credK j)) i 1 : CellTallies nD τ sig ℕ))
  have hb (ρ : Fin 2) : (∑ d : Dev nD, tallyAt (cell (fromD ρ d) barK) 0 1) = (∑ d : Dev nD, tallyAt (cell d barK) 0 1 : CellTallies nD τ sig ℕ) :=
    Equiv.sum_comp (ringE ρ).symm fun d : Dev nD => (tallyAt (cell d barK) 0 1 : CellTallies nD τ sig ℕ)
  unfold O₀ Dues
  rw [Finset.sum_add_distrib, Finset.sum_add_distrib, Finset.sum_add_distrib, Finset.sum_comm, Finset.sum_congr rfl fun j _ => h1 j, Finset.sum_comm,
    hb 0, hb 1, add_assoc, ← Finset.sum_add_distrib]
  exact congrArg _ (Finset.sum_congr rfl fun d _ => tallyAt_add _ _ _ _)

/-- The credit of chain `j`. -/
def Credits (c : Dev nD) (j : Ch) : sProp 𝕄 :=
  iprop((bigSep (Finset.Ico 0 30) fun i => cred (tallyAt (cell c (recvK j (sl (i + 1)))) i N))
    ∗ bigSep (Finset.Ico 0 30) fun i => cred (tallyAt (cell c (credK j)) i 1))

theorem credits (c : Dev nD) : (Pipeline.launchCred O₀ c : sProp 𝕄)
    ⊢ iprop((bigSep Finset.univ fun j => Credits (F := F) c j) ∗ cred (tallyAt (cell c barK) 0 2)) := by
  rw [Pipeline.launchCred_of_sum O₀ Dues owed_due dues_onCore c]
  unfold Dues
  refine (cred_add _ _).1.trans (sep_mono_left ?_)
  rw [Pipeline.cred_finsetSum]
  refine bigSep_mono fun j _ => ?_
  unfold Due Credits
  refine (cred_add _ _).1.trans ?_
  rw [Pipeline.cred_finsetSum, Pipeline.cred_finsetSum]

end Credit

/-! ## The semaphores' invariants -/

variable (I : Ins F)

theorem unscoped_eq (c : Dev nD) : (unscopedSems0 c : sProp 𝕄) = semVal (cell c barK) 0 := by
  unfold unscopedSems0; rw [bigSep_eq_bigSepL_of_eq [SemLoc.reg barS.sem] (by decide) (by decide)]; rfl

theorem big_two (Φ : Fin 2 → sProp 𝕄) : bigSep Finset.univ Φ = iprop(Φ 0 ∗ Φ 1) :=
  bigSep_univ_eq_bigSepL [(0 : Fin 2), 1] (by decide) (by decide) Φ

/-- Something of every kind. -/
theorem big_kind (Φ : Kind → sProp 𝕄) : bigSep Finset.univ Φ
    = iprop(Φ barK ∗ (bigSep Finset.univ fun j : Ch => bigSep Finset.univ fun s : Fin 3 => Φ (sendK j s))
      ∗ (bigSep Finset.univ fun j : Ch => bigSep Finset.univ fun s : Fin 3 => Φ (recvK j s)) ∗ (bigSep Finset.univ fun j : Ch => Φ (credK j))) := by
  rw [bigSep_univ_sum, bigSep_univ_sum, bigSep_univ_sum,
    bigSep_univ_prod (fun a : Ch × Fin 3 => Φ (.inr (.inl a))), bigSep_univ_prod (fun a : Ch × Fin 3 => Φ (.inr (.inr (.inl a)))),
    bigSep_univ_eq_bigSepL [()] (by decide) (by decide) (fun a : Unit => Φ (.inl a))]
  rfl

theorem sems (c : Dev nD) : iprop(Pipeline.ownSems0 osem c ∗ unscopedSems0 c)
    ⊢ (iprop((bigSep Finset.univ fun κ : Kind => semVal (cell c κ) 0) ∗ OSem (F := F) c) : sProp 𝕄) := by
  rw [own_eq, unscoped_eq, big_kind]
  iintro ⟨⟨⟨H1, H2, H3⟩, H4⟩, H0⟩
  isplitr [H4]
  · isplitl [H0]; · iexact H0
    isplitl [H1]; · iexact H1
    isplitl [H2]; · iexact H2
    iexact H3
  iexact H4

/-- What stays with device `c`. -/
def Lin (c : Dev nD) : sProp 𝕄 :=
  iprop((bigSep Finset.univ fun κ : Kind => atPos ER (cell c κ) 0 ∅ 0) ∗ toks (F := F) c ∗ OSem (F := F) c ∗ SlotsInv (F := F))

theorem alloc (c : Dev nD) : iprop(Pipeline.ownSems0 osem c ∗ unscopedSems0 c ∗ G I c)
    ⊢ |={Set.univ}=> iprop((bigSep Finset.univ fun κ : Kind => iprop(∃ n : ℕ, cellInv ER (Rd I) n (cell c κ)))
      ∗ (bigSep Finset.univ fun κ : Kind => reached ER (cell c κ) 0) ∗ Lin (F := F) c) := by
  unfold G
  iintro ⟨Hos, Hus, Hst, Hat, Hr, Htok, Hsl⟩
  ihave Hv := (sems (F := F) c) $$ [Hos Hus]
  · isplitl [Hos]; · iexact Hos
    iexact Hus
  icases Hv with ⟨Hv, Ho⟩
  imod (show iprop((bigSep Finset.univ fun κ : Kind => semVal (cell c κ) 0) ∗ bigSep Finset.univ fun κ : Kind => roundState ER (Rd I) (cell c κ) 0)
      ⊢ (|={Set.univ}=> bigSep Finset.univ fun κ : Kind => iprop(∃ n : ℕ, cellInv ER (Rd I) n (cell c κ)) : sProp 𝕄) from by
        rw [← bigSep_sep']
        exact (bigSep_mono fun κ _ => (Rounds.body_intro ER (Rd I) (cell c κ)).trans inv_alloc).trans (bigSep_fupd _ _)) $$ [Hv Hst] with Hinv
  · isplitl [Hv]; · iexact Hv
    iexact Hst
  imodintro
  isplitl [Hinv]; · iexact Hinv
  isplitl [Hr]; · iexact Hr
  unfold Lin
  isplitl [Hat]; · iexact Hat
  isplitl [Htok]; · iexact Htok
  isplitl [Ho]; · iexact Ho
  iexact Hsl

/-- The semaphores' invariants, all of them. -/
def Rec (K : Dev nD × Kind → ℕ) : sProp 𝕄 :=
  iprop((bigSep Finset.univ fun x : Dev nD × Kind => cellInv ER (Rd I) (K x) (cell x.1 x.2))
    ∗ (bigSep Finset.univ fun x : Dev nD × Kind => reached ER (cell x.1 x.2) 0))
instance Rec_persistent (K : Dev nD × Kind → ℕ) : BI.Persistent (Rec I K) := by unfold Rec; infer_instance

/-- What device `c` holds when all the invariants stand. -/
def G' (c : Dev nD) : sProp 𝕄 := iprop(∃ K, Rec I K ∗ Lin (F := F) c)

theorem regroup : (bigSep Finset.univ fun c => iprop((bigSep Finset.univ fun κ : Kind => iprop(∃ n : ℕ, cellInv ER (Rd I) n (cell c κ)))
      ∗ (bigSep Finset.univ fun κ : Kind => reached ER (cell c κ) 0) ∗ Lin (F := F) c) : sProp 𝕄) ⊢ bigSep Finset.univ (G' I) := by
  rw [bigSep_sep', bigSep_sep', ← bigSep_univ_prod (fun x : Dev nD × Kind => iprop(∃ n : ℕ, cellInv ER (Rd I) n (cell x.1 x.2))),
    ← bigSep_univ_prod (fun x : Dev nD × Kind => (reached ER (cell x.1 x.2) 0 : sProp 𝕄))]
  iintro ⟨HI, #HR, HL⟩
  ihave HK := (BI.bigSep_exists_pi Finset.univ (fun (x : Dev nD × Kind) (n : ℕ) => (cellInv ER (Rd I) n (cell x.1 x.2) : sProp 𝕄))) $$ HI
  icases HK with ⟨%K, #HI⟩
  iapply (big_with (Rec I K) (Φ := Lin (F := F)) (Ψ := G' I) fun c => by
    unfold G'
    iintro ⟨#HR, HL⟩
    iexists K
    isplitr; · iexact HR
    iexact HL)
  isplitr
  · unfold Rec
    isplitr; · iexact HI
    iexact HR
  iexact HL

theorem glob : (bigSep Finset.univ fun c => iprop(Pipeline.ownSems0 osem c ∗ unscopedSems0 c ∗ G I c) : sProp 𝕄)
    ⊢ |={Set.univ}=> bigSep Finset.univ (G' I) :=
  ((bigSep_mono fun c _ => alloc I c).trans (bigSep_fupd _ _)).trans (BI.fupd_mono (regroup I))

/-! ## The chains at first -/

variable {I} {K : Dev nD × Kind → ℕ} {KS : Key → ℕ}

theorem fin_ico (Φ : ℕ → sProp 𝕄) : (bigSep Finset.univ fun i : Fin 30 => Φ i.val) = bigSep (Finset.Ico 0 30) Φ := by
  rw [show Finset.Ico 0 30 = (Finset.univ : Finset (Fin 30)).map Fin.valEmbedding from by decide, bigSep_map]
  rfl

/-- The pieces of chain `j` of device `c`. -/
def Pieces (c : Dev nD) (j : Ch) : sProp 𝕄 :=
  iprop(((bigSep Finset.univ fun s : Fin 3 => atPos ER (cell c (sendK j s)) 0 ∅ 0) ∗ (bigSep Finset.univ fun s : Fin 3 => atPos ER (cell c (recvK j s)) 0 ∅ 0)
      ∗ atPos ER (cell c (credK j)) 0 ∅ 0)
    ∗ ((bigSep (Finset.Ico 0 30) fun i => dutyTok ER (cell c (sendK j (sl i))) (i / 3) 0)
      ∗ (bigSep (Finset.Ico 0 30) fun i => dutyTok ER (cell (toD j.1 c) (recvK j (sl (i + 1)))) (i / 3) 0)
      ∗ (bigSep (Finset.Ico 0 30) fun i => dutyTok ER (cell (fromD j.1 c) (credK j)) 0 i))
    ∗ (bigSep Finset.univ fun s : Fin 3 => Release.readerAt ES (c, j, s) 0)
    ∗ (bigSep (Finset.Ico 0 30) fun i => Release.writeTok ES (toD j.1 c, j, sl (i + 1)) (i / 3 + 1))
    ∗ Credits (F := F) c j)

theorem reach0 (c : Dev nD) (j : Ch) {i : ℕ} (hi : i / 3 = 0) : Ctx I K KS ⊢ ReachAt (F := F) c j i := by
  unfold ReachAt
  rw [hi]
  iintro #HC
  isplitr
  · iapply (Ctx_reached I K KS c (sendK j (sl i))); iexact HC
  · iapply (Ctx_reached I K KS c (recvK j (sl (i + 1)))); iexact HC

theorem range_three (Φ : ℕ → sProp 𝕄) : bigSep (Finset.range 3) Φ = iprop(Φ 0 ∗ Φ 1 ∗ Φ 2) :=
  bigSep_eq_bigSepL_of_eq [0, 1, 2] (by decide) (by decide) Φ

theorem base_intro (c : Dev nD) (j : Ch) : iprop(Ctx I K KS ∗ Pieces (F := F) c j) ⊢ Base (F := F) c j 0 0 0 0 := by
  unfold Pieces Base Credits CredPos Pos PosAt Given ReadAt freedTo
  rw [big_three, big_three, big_three, Finset.range_zero, bigSep_empty]
  iintro ⟨#HC, ⟨⟨S0, S1, S2⟩, ⟨R0, R1, R2⟩, P⟩, ⟨TS, TR, TC⟩, ⟨D0, D1, D2⟩, W, CR, CC⟩
  isplitl [TS TR W]
  · unfold SendTok
    rw [bigSep_sep', bigSep_sep']
    isplitl [TS]; · iexact TS
    isplitl [TR]; · iexact TR
    iexact W
  isplitl [CC]; · iexact CC
  isplitl [P]
  · iexists ∅
    rw [bigSep_empty]
    isplitr; · ipureintro; exact ⟨Finset.empty_subset _, Nat.zero_le _⟩
    isplitl [P]; · iexact P
    iempintro
  isplitl [CR]; · iexact CR
  isplitl [S0 S1 S2 R0 R1 R2]
  · isplitl [S0 R1]
    · isplitl [S0]; · iexact S0
      iexact R1
    isplitl [S1 R2]
    · isplitl [S1]; · iexact S1
      iexact R2
    isplitl [S2 R0]
    · isplitl [S2]; · iexact S2
      iexact R0
    rw [show (0 : ℕ) + 3 = 3 from rfl, range_three]
    isplitr; · iapply (reach0 c j (i := 0) rfl); iexact HC
    isplitr; · iapply (reach0 c j (i := 1) rfl); iexact HC
    iapply (reach0 c j (i := 2) rfl); iexact HC
  isplitl [TC]; · iexact TC
  isplitl [D1]; · iexact D1
  isplitl [D2]; · iexact D2
  isplitl [D0]; · iexact D0
  iempintro

theorem toks_eq (c : Dev nD) : toks (F := F) c = iprop(((bigSep Finset.univ fun ρ : Fin 2 => dutyTok ER (cell (fromD ρ c) barK) 0 ρ.val)
      ∗ (bigSep Finset.univ fun j : Ch => bigSep (Finset.Ico 0 30) fun i => dutyTok ER (cell c (sendK j (sl i))) (i / 3) 0)
      ∗ (bigSep Finset.univ fun j : Ch => bigSep (Finset.Ico 0 30) fun i => dutyTok ER (cell (toD j.1 c) (recvK j (sl (i + 1)))) (i / 3) 0)
      ∗ (bigSep Finset.univ fun j : Ch => bigSep (Finset.Ico 0 30) fun i => dutyTok ER (cell (fromD j.1 c) (credK j)) 0 i))
    ∗ (bigSep Finset.univ fun j : Ch => bigSep Finset.univ fun s : Fin 3 => Release.readerAt ES (c, j, s) 0)
    ∗ (bigSep Finset.univ fun j : Ch => bigSep (Finset.Ico 0 30) fun i => Release.writeTok ES (toD j.1 c, j, sl (i + 1)) (i / 3 + 1))) := by
  have hp (Φ : Ch → ℕ → sProp 𝕄) : (bigSep Finset.univ fun x : Ch × Fin 30 => Φ x.1 x.2.val) = bigSep Finset.univ fun j : Ch => bigSep (Finset.Ico 0 30) (Φ j) := by
    rw [bigSep_univ_prod]
    exact bigSep_congr fun j _ => fin_ico (Φ j)
  unfold toks
  rw [← hp, ← hp, ← hp, ← hp, bigSep_univ_sum, bigSep_univ_sum, bigSep_univ_sum, ← bigSep_univ_prod (fun x : Ch × Fin 3 => (Release.readerAt ES (c, x.1, x.2) 0 : sProp 𝕄))]
  rfl

theorem pieces_intro (c : Dev nD) :
    iprop((bigSep Finset.univ fun κ : Kind => atPos ER (cell c κ) 0 ∅ 0) ∗ toks (F := F) c ∗ Pipeline.launchCred O₀ c)
      ⊢ iprop(MeetP (F := F) c ∗ bigSep Finset.univ fun j => Pieces (F := F) c j) := by
  unfold Pieces MeetP
  rw [big_kind, toks_eq, bigSep_sep', bigSep_sep', bigSep_sep', bigSep_sep', bigSep_sep', bigSep_sep', bigSep_sep', bigSep_sep',
    big_two (fun ρ : Fin 2 => (dutyTok ER (cell (fromD ρ c) barK) 0 ρ.val : sProp 𝕄))]
  iintro ⟨⟨P, PS, PR, PC⟩, ⟨⟨⟨B0, B1⟩, TS, TR, TC⟩, D, W⟩, HC⟩
  ihave H := (credits (F := F) c) $$ HC
  icases H with ⟨HC, HB⟩
  isplitl [B0 B1 HB P]
  · isplitl [B0]; · iexact B0
    isplitl [B1]; · iexact B1
    isplitl [HB]; · iexact HB
    iexact P
  isplitl [PS PR PC]
  · isplitl [PS]; · iexact PS
    isplitl [PR]; · iexact PR
    iexact PC
  isplitl [TS TR TC]
  · isplitl [TS]; · iexact TS
    isplitl [TR]; · iexact TR
    iexact TC
  isplitl [D]; · iexact D
  isplitl [W]; · iexact W
  iexact HC

/-- What device `c`'s core starts from, besides its buffers. -/
def Start (I : Ins F) (c : Dev nD) : sProp 𝕄 :=
  iprop(∃ K KS, Ctx I K KS ∗ MeetP (F := F) c ∗ (bigSep Finset.univ fun j => Base (F := F) c j 0 0 0 0) ∗ OSem (F := F) c ∗ OutP I c 15)

theorem start_intro (I : Ins F) (c : Dev nD) : iprop(OutP I c 15 ∗ levAts L lv ∗ Pipeline.launchCred O₀ c ∗ G' I c) ⊢ Start I c := by
  unfold G' Lin SlotsInv Start
  iintro ⟨Ho, #HL, HC, %K, #HR, HA, HT, HO, %KS, #HS⟩
  iexists K, KS
  ihave HP := (pieces_intro (F := F) c) $$ [HA HT HC]
  · isplitl [HA]; · iexact HA
    isplitl [HT]; · iexact HT
    iexact HC
  icases HP with ⟨HM, HP⟩
  ihave #HX := (show iprop(Rec I K ∗ (bigSep Finset.univ fun x : Key => Release.slotInv ES (KS x) x (slotA (F := F) x)) ∗ levAts L lv) ⊢ Ctx I K KS from by
    unfold Rec Ctx
    iintro ⟨⟨#H1, #H2⟩, #H3, #H4⟩
    isplitr; · iexact H1
    isplitr; · iexact H2
    isplitr; · iexact H3
    iexact H4) $$ []
  · isplitr; · iexact HR
    isplitr; · iexact HS
    iexact HL
  isplitr; · iexact HX
  isplitl [HM]; · iexact HM
  isplitl [HP]
  · iapply (big_with (Ctx I K KS) (Φ := fun j => Pieces (F := F) c j) (Ψ := fun j => Base (F := F) c j 0 0 0 0) fun j => base_intro c j)
    isplitr; · iexact HX
    iexact HP
  isplitl [HO]; · iexact HO
  iexact Ho

/-- With the kernel's buffers and its inputs it is what the body starts from. -/
theorem pre_intro (I : Ins F) (c : Dev nD) : iprop(Start I c ∗ Bufs (F := F) c ∗ InP I c ∗ Owe (F := F) c (O₀ c))
    ⊢ iprop(∃ K KS, Ctx I K KS ∗ Pre I c) := by
  unfold Start Bufs Pre Sto
  iintro ⟨⟨%K, %KS, #HC, HM, HB, HO, Hout⟩, ⟨Hc, S0, S1⟩, Hi, Hw⟩
  iexists K, KS
  isplitr; · iexact HC
  isplitl [HM]; · iexact HM
  isplitl [Hi]; · iexact Hi
  isplitl [HB Hc]
  · iapply (show iprop((bigSep Finset.univ fun j => Base (F := F) c j 0 0 0 0) ∗ bigSep Finset.univ fun j => CommA (F := F) c j) ⊢ (bigSep Finset.univ fun j => CS I c j .init) from by
      rw [← bigSep_sep']
      exact bigSep_mono fun j _ => sep_mono_right (comm_split c j))
    isplitl [HB]; · iexact HB
    iexact Hc
  isplitr [Hw]
  · isplitl [S0]; · iexact S0
    isplitl [S1]; · iexact S1
    isplitl [HO]; · iexact HO
    iexact Hout
  iexact Hw

end Cert.KernelIdeal.Ring

end
-- ==== Proof.Shape.lean ====
/- The printed body is the body of `Macro.lean`: each of the two loops' trips, then the whole. Both sides are laid flat
   into one sequence of operations and the sequences are the same. -/
module

public import proofs.«01_k».proof.Proof.Macro

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

set_option maxHeartbeats 0
set_option maxRecDepth 65536

theorem t1_body_eq (c : Dev nD) (v32 v62 v92 : BitVec 32) :
    k0_t1_body (F := F) xM (Memref.isWhole_whole _) wM (Memref.isWhole_whole _) outM (Memref.isWhole_whole _) (Memref.whole
      cc0_scratch0) (Memref.isWhole_whole _) (Memref.whole cc0_scratch1) (Memref.isWhole_whole _) (Memref.whole
      cc0_scratch2) (Memref.isWhole_whole _) (Memref.whole cc0_scratch3) (Memref.isWhole_whole _) (Memref.whole
      cc0_scratch4) (Memref.isWhole_whole _) (Memref.whole cc0_scratch5) (Memref.isWhole_whole _) (Memref.whole
      cc0_scratch6) (Memref.isWhole_whole _) (Memref.whole cc0_scratch7) (Memref.isWhole_whole _) (Memref.whole
      cc0_scratch8) (Memref.isWhole_whole _) (Memref.whole cc0_scratch9) (Memref.isWhole_whole _) cc0_scratch10
      cc0_scratch11 cc0_scratch12 cc0_scratch13 cc0_scratch14 cc0_scratch15 cc0_scratch16 cc0_scratch17
      cc0_scratch18 cc0_scratch19 cc0_scratch20 cc0_scratch21 cc0_scratch22 cc0_scratch23 cc0_scratch24
      cc0_scratch25 cc0_scratch26 cc0_scratch27 cc0_scratch28 cc0_scratch29 cc0_scratch30 cc0_scratch31
      cc0_scratch32 cc0_scratch33 cc0_scratch34 cc0_scratch35 c v32 v62 v92
      = fun t _ => rsTrip c t := by
  funext t a
  unfold k0_t1_body
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel]
  simp only [rsTrip, rsMid, rsSub, startSub, waitSub, waitHop, signalSub, accum, loadX, loadW, loadSlot, storeSlot, send]
  simp only [semSignalWord, semWaitWord, Prog.lift, bind_assoc, Prog.bind_op, Prog.bind_ret, Prog.pure_eq_ret]
  rfl

theorem t2_body_eq (c : Dev nD) (v32 v62 v92 v1 v2 : BitVec 32) :
    k0_t2_body (F := F) xM (Memref.isWhole_whole _) wM (Memref.isWhole_whole _) outM (Memref.isWhole_whole _) (Memref.whole
      cc0_scratch0) (Memref.isWhole_whole _) (Memref.whole cc0_scratch1) (Memref.isWhole_whole _) (Memref.whole
      cc0_scratch2) (Memref.isWhole_whole _) (Memref.whole cc0_scratch3) (Memref.isWhole_whole _) (Memref.whole
      cc0_scratch4) (Memref.isWhole_whole _) (Memref.whole cc0_scratch5) (Memref.isWhole_whole _) (Memref.whole
      cc0_scratch6) (Memref.isWhole_whole _) (Memref.whole cc0_scratch7) (Memref.isWhole_whole _) (Memref.whole
      cc0_scratch8) (Memref.isWhole_whole _) (Memref.whole cc0_scratch9) (Memref.isWhole_whole _) cc0_scratch10
      cc0_scratch11 cc0_scratch12 cc0_scratch13 cc0_scratch14 cc0_scratch15 cc0_scratch16 cc0_scratch17
      cc0_scratch18 cc0_scratch19 cc0_scratch20 cc0_scratch21 cc0_scratch22 cc0_scratch23 cc0_scratch24
      cc0_scratch25 cc0_scratch26 cc0_scratch27 cc0_scratch28 cc0_scratch29 cc0_scratch30 cc0_scratch31
      cc0_scratch32 cc0_scratch33 cc0_scratch34 cc0_scratch35 c v32 v62 v92 v1 v2
      = fun t _ => agTrip c t := by
  funext t a
  unfold k0_t2_body
  simp only [k0_part35_eq_skeleton, k0_part35_skel, k0_part36_eq_skeleton, k0_part36_skel, k0_part37_eq_skeleton, k0_part37_skel,
    k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel,
    k0_part44_eq_skeleton, k0_part44_skel, k0_part45_eq_skeleton, k0_part45_skel, k0_part46_eq_skeleton, k0_part46_skel,
    k0_part47_eq_skeleton, k0_part47_skel, k0_part48_eq_skeleton, k0_part48_skel, k0_part49_eq_skeleton, k0_part49_skel,
    k0_part50_eq_skeleton, k0_part50_skel, k0_part51_eq_skeleton, k0_part51_skel, k0_part52_eq_skeleton, k0_part52_skel,
    k0_part53_eq_skeleton, k0_part53_skel, k0_part54_eq_skeleton, k0_part54_skel, k0_part55_eq_skeleton, k0_part55_skel,
    k0_part56_eq_skeleton, k0_part56_skel, k0_part57_eq_skeleton, k0_part57_skel, k0_part58_eq_skeleton, k0_part58_skel,
    k0_part59_eq_skeleton, k0_part59_skel, k0_part60_eq_skeleton, k0_part60_skel, k0_part61_eq_skeleton, k0_part61_skel,
    k0_part62_eq_skeleton, k0_part62_skel, k0_part63_eq_skeleton, k0_part63_skel, k0_part64_eq_skeleton, k0_part64_skel,
    k0_part65_eq_skeleton, k0_part65_skel, k0_part66_eq_skeleton, k0_part66_skel, k0_part67_eq_skeleton, k0_part67_skel,
    k0_part68_eq_skeleton, k0_part68_skel, k0_part69_eq_skeleton, k0_part69_skel, k0_part70_eq_skeleton, k0_part70_skel,
    k0_part71_eq_skeleton, k0_part71_skel, k0_part72_eq_skeleton, k0_part72_skel, k0_part73_eq_skeleton, k0_part73_skel]
  simp only [agTrip, agMid, agSub, agStore, stagePart, copyOut, waitOut, startSub, waitSub, waitHop, signalSub, loadSlot, send, ↓reduceIte]
  simp only [semSignalWord, semWaitWord, Prog.lift, bind_assoc, Prog.bind_op, Prog.bind_ret, Prog.pure_eq_ret]
  rfl

theorem body_eq :
    cc0_body (F := F) xM (Memref.isWhole_whole _) wM (Memref.isWhole_whole _) outM (Memref.isWhole_whole _) (Memref.whole
      cc0_scratch0) (Memref.isWhole_whole _) (Memref.whole cc0_scratch1) (Memref.isWhole_whole _) (Memref.whole
      cc0_scratch2) (Memref.isWhole_whole _) (Memref.whole cc0_scratch3) (Memref.isWhole_whole _) (Memref.whole
      cc0_scratch4) (Memref.isWhole_whole _) (Memref.whole cc0_scratch5) (Memref.isWhole_whole _) (Memref.whole
      cc0_scratch6) (Memref.isWhole_whole _) (Memref.whole cc0_scratch7) (Memref.isWhole_whole _) (Memref.whole
      cc0_scratch8) (Memref.isWhole_whole _) (Memref.whole cc0_scratch9) (Memref.isWhole_whole _) cc0_scratch10
      cc0_scratch11 cc0_scratch12 cc0_scratch13 cc0_scratch14 cc0_scratch15 cc0_scratch16 cc0_scratch17
      cc0_scratch18 cc0_scratch19 cc0_scratch20 cc0_scratch21 cc0_scratch22 cc0_scratch23 cc0_scratch24
      cc0_scratch25 cc0_scratch26 cc0_scratch27 cc0_scratch28 cc0_scratch29 cc0_scratch30 cc0_scratch31
      cc0_scratch32 cc0_scratch33 cc0_scratch34 cc0_scratch35
      = (Prog.lift .deviceId >>= fun c => core c) := by
  rw [cc0_body_eq_skeleton]
  unfold cc0_body_skel
  simp only [k0_part74_eq_skeleton, k0_part74_skel, k0_part75_eq_skeleton, k0_part75_skel, k0_part76_eq_skeleton, k0_part76_skel,
    k0_part77_eq_skeleton, k0_part77_skel, k0_part78_eq_skeleton, k0_part78_skel, k0_part79_eq_skeleton, k0_part79_skel,
    k0_part80_eq_skeleton, k0_part80_skel, k0_part81_eq_skeleton, k0_part81_skel, k0_part82_eq_skeleton, k0_part82_skel,
    k0_part83_eq_skeleton, k0_part83_skel, k0_part84_eq_skeleton, k0_part84_skel, k0_part85_eq_skeleton, k0_part85_skel,
    k0_part86_eq_skeleton, k0_part86_skel, k0_part87_eq_skeleton, k0_part87_skel, k0_part88_eq_skeleton, k0_part88_skel,
    k0_part89_eq_skeleton, k0_part89_skel, k0_part90_eq_skeleton, k0_part90_skel, k0_part91_eq_skeleton, k0_part91_skel,
    k0_part92_eq_skeleton, k0_part92_skel, k0_part93_eq_skeleton, k0_part93_skel, k0_part94_eq_skeleton, k0_part94_skel,
    k0_part95_eq_skeleton, k0_part95_skel, k0_part96_eq_skeleton, k0_part96_skel, k0_part97_eq_skeleton, k0_part97_skel,
    k0_part98_eq_skeleton, k0_part98_skel, k0_part99_eq_skeleton, k0_part99_skel, k0_part100_eq_skeleton,
    k0_part100_skel, k0_part101_eq_skeleton, k0_part101_skel, k0_part102_eq_skeleton, k0_part102_skel,
    k0_part103_eq_skeleton, k0_part103_skel, k0_part104_eq_skeleton, k0_part104_skel, k0_part105_eq_skeleton,
    k0_part105_skel, k0_part106_eq_skeleton, k0_part106_skel, k0_part107_eq_skeleton, k0_part107_skel,
    k0_part108_eq_skeleton, k0_part108_skel, k0_part109_eq_skeleton, k0_part109_skel, k0_part110_eq_skeleton,
    k0_part110_skel, k0_part111_eq_skeleton, k0_part111_skel, k0_part112_eq_skeleton, k0_part112_skel,
    k0_part113_eq_skeleton, k0_part113_skel, k0_part114_eq_skeleton, k0_part114_skel, k0_part115_eq_skeleton,
    k0_part115_skel, k0_part116_eq_skeleton, k0_part116_skel, k0_part117_eq_skeleton, k0_part117_skel,
    k0_part118_eq_skeleton, k0_part118_skel, k0_part119_eq_skeleton, k0_part119_skel, k0_part120_eq_skeleton,
    k0_part120_skel, k0_part121_eq_skeleton, k0_part121_skel, k0_part122_eq_skeleton, k0_part122_skel,
    k0_part123_eq_skeleton, k0_part123_skel, k0_part124_eq_skeleton, k0_part124_skel, k0_part125_eq_skeleton,
    k0_part125_skel, k0_part126_eq_skeleton, k0_part126_skel, k0_part127_eq_skeleton, k0_part127_skel,
    k0_part128_eq_skeleton, k0_part128_skel, k0_part129_eq_skeleton, k0_part129_skel, k0_part130_eq_skeleton,
    k0_part130_skel, k0_part131_eq_skeleton, k0_part131_skel, k0_part132_eq_skeleton, k0_part132_skel,
    k0_part133_eq_skeleton, k0_part133_skel, k0_part134_eq_skeleton, k0_part134_skel, k0_part135_eq_skeleton,
    k0_part135_skel, k0_part136_eq_skeleton, k0_part136_skel, k0_part137_eq_skeleton, k0_part137_skel,
    k0_part138_eq_skeleton, k0_part138_skel, k0_part139_eq_skeleton, k0_part139_skel, k0_part140_eq_skeleton,
    k0_part140_skel, k0_part141_eq_skeleton, k0_part141_skel, k0_part142_eq_skeleton, k0_part142_skel,
    k0_part143_eq_skeleton, k0_part143_skel, k0_part144_eq_skeleton, k0_part144_skel, k0_part145_eq_skeleton,
    k0_part145_skel, k0_part146_eq_skeleton, k0_part146_skel, k0_part147_eq_skeleton, k0_part147_skel,
    k0_part148_eq_skeleton, k0_part148_skel, k0_part149_eq_skeleton, k0_part149_skel, k0_part150_eq_skeleton,
    k0_part150_skel, k0_part151_eq_skeleton, k0_part151_skel, k0_part152_eq_skeleton, k0_part152_skel,
    k0_part153_eq_skeleton, k0_part153_skel, k0_part154_eq_skeleton, k0_part154_skel, k0_part155_eq_skeleton,
    k0_part155_skel, k0_part156_eq_skeleton, k0_part156_skel, t1_body_eq, t2_body_eq]
  simp only [core, prologue, meet, fill, initPart, signalAll, startAll, waitAll, rsTail, agTail, rsMid, rsSub, accum, loadX, loadW, storeSlot,
    agMid, agSub, agStore, stagePart, copyOut, waitOut, startSub, waitSub, waitHop, signalSub, loadSlot, send, ↓reduceIte, Bool.false_eq_true]
  simp only [semSignalWord, semWaitWord, Prog.lift, bind_assoc, Prog.bind_op, Prog.bind_ret, Prog.pure_eq_ret]
  rfl
end Cert.KernelIdeal.Ring

end
-- ==== Proof.Run.lean ====
/- The run of the whole kernel on the sixteen devices. -/
module

public import proofs.«01_k».proof.Proof.Deal
public import proofs.«01_k».proof.Proof.Shape
public import proofs.«01_k».proof.Proof.Gen.KernelIdeal.Points
public import Idealize.ShloMosaic.Lib.Pipeline.Kit
public import Idealize.ShloMosaic.Lib.Pipeline.CollectiveSegs
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## The data of the run -/

/-- The memory at the start. -/
def s₀ : MemSt nD τ sig (Elt F) := ⟨m, fun _ => 0, ρ⟩

/-- The device's columns of `x`, as they stand before the kernel. -/
def xstg (c : Dev nD) : (cc0_stg0_0 : Ref sig .tc).ty.Contents (Elt F) :=
  (win0_0.blk (0 : Fin 1)).view.read (Elt F) (m ((c : Thread nD τ).loc main_arg0))
/-- The device's rows of `w`. -/
def wstg (c : Dev nD) : (cc0_stg1_0 : Ref sig .tc).ty.Contents (Elt F) :=
  (win0_1.blk (0 : Fin 1)).view.read (Elt F) (m ((c : Thread nD τ).loc main_arg1))

theorem xstg_eq (c : Dev nD) : xstg m c = m ((c : Thread nD τ).loc main_arg0) := by
  funext i
  show m ((c : Thread nD τ).loc main_arg0) _ = _
  exact congrArg _ (funext fun a => Fin.ext (win0_0.rect_emb_val_of_index_zero (0 : Fin 1) a rfl i))
theorem wstg_eq (c : Dev nD) : wstg m c = m ((c : Thread nD τ).loc main_arg1) := by
  funext i
  show m ((c : Thread nD τ).loc main_arg1) _ = _
  exact congrArg _ (funext fun a => Fin.ext (win0_1.rect_emb_val_of_index_zero (0 : Fin 1) a rfl i))

/-- The two inputs of every device. -/
def ins : Ins F := ⟨xstg m, wstg m⟩

theorem cfg0_N : cfg0.N = 1 := by decide
def t₀ : Fin cfg0.N := ⟨0, by rw [cfg0_N]; decide⟩
theorem fin_N (t : Fin cfg0.N) : t = t₀ := by
  obtain ⟨t, ht⟩ := t
  have h := cfg0_N
  exact Fin.ext (show t = 0 by omega)

/-- What a device holds before its body, apart from the inputs. -/
def Φ₀ (c : Dev nD) : sProp 𝕄 := iprop(Start (ins m) c ∗ Bufs (F := F) c)

/-- The data of the one launch. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
  Φ t := match t with
    | ⟨0, _⟩ => Φ₀ m c
    | ⟨_ + 1, _⟩ => Left (ins m) c
  q _ := fullShare
  owed t := match t with
    | ⟨0, _⟩ => O₀ c
    | ⟨_ + 1, _⟩ => 0

theorem before_x (c : Dev nD) (d) : (dats m ρ 0 c).before (0 : Fin 2) t₀ d = xstg m c := by
  unfold Dat.before; rw [if_pos (fetch0_0 t₀)]
  rfl
theorem before_w (c : Dev nD) (d) : (dats m ρ 0 c).before (1 : Fin 2) t₀ d = wstg m c := by
  unfold Dat.before; rw [if_pos (fetch0_1 t₀)]
  rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Left (ins m) c ∗ (dats m ρ 0 c).owesAt 0 t₀.succ ∗ stg c cc0_stg0_0 (xstg m c) ∗ stg c cc0_stg1_0 (wstg m c))

theorem pre_body0 (c : Dev nD) : bodyPre m ρ c ⊢ iprop(Start (ins m) c ∗ Bufs (F := F) c ∗ InP (ins m) c ∗ Owe (F := F) c (O₀ c)) := by
  unfold bodyPre Φ₀ Dat.owesAt Pipeline.owesWithin InP Owe
  iintro ⟨⟨Hs, Hb⟩, ⟨%W, %hW, HO⟩, ⟨%d0, %g0, %hg0, Hx⟩, ⟨%d1, %g1, %hg1, Hw⟩⟩
  have hx : g0 = (ins m).x c := hg0.trans (before_x m ρ c d0)
  have hw : g1 = (ins m).w c := hg1.trans (before_w m ρ c d1)
  subst hx
  subst hw
  isplitl [Hs]; · iexact Hs
  isplitl [Hb]; · iexact Hb
  isplitl [Hx Hw]
  · isplitl [Hx]; · iexact Hx
    iexact Hw
  iexists W
  iexact HO

theorem pre_body (c : Dev nD) : bodyPre m ρ c ⊢ iprop(∃ K KS, Ctx (ins m) K KS ∗ Pre (ins m) c) :=
  BI.Entails.trans (pre_body0 m ρ c) (pre_intro (ins m) c)

theorem post_body0 (c : Dev nD) : iprop(Left (ins m) c ∗ InP (ins m) c ∗ Owe (F := F) c 0) ⊢ bodyPost m ρ c := by
  unfold bodyPost Dat.owesAt Pipeline.owesWithin InP Owe
  rw [show (dats m ρ 0 c).owed t₀.succ = 0 from rfl]
  iintro ⟨HL, ⟨Hx, Hw⟩, ⟨%W, HO⟩⟩
  isplitl [HL]; · iexact HL
  isplitl [HO]
  · iexists W
    isplitr; · ipureintro; exact fun _ _ => Or.inl trivial
    iexact HO
  isplitl [Hx]
  · iexists ((ins m).x c)
    isplitr; · (ipureintro; rfl)
    iexact Hx
  iexists ((ins m).w c)
  isplitr; · (ipureintro; rfl)
  iexact Hw

theorem post_body (c : Dev nD) (K : Dev nD × Kind → ℕ) (KS : Key → ℕ) :
    iprop(Ctx (ins m) K KS ∗ Post (ins m) c) ⊢ (|={Set.univ}=> bodyPost m ρ c : sProp 𝕄) :=
  (post_end c).trans (BI.fupd_mono (post_body0 m ρ c))

theorem ctx_twice (I : Ins F) (c : Dev nD) (K : Dev nD × Kind → ℕ) (KS : Key → ℕ) :
    iprop(Ctx I K KS ∗ Pre I c) ⊢ iprop((Ctx I K KS ∗ Pre I c) ∗ Ctx I K KS) := by
  iintro ⟨#HC, HP⟩
  isplitl
  · isplitr; · iexact HC
    iexact HP
  iexact HC

theorem core_run (c : Dev nD) :
    bodyPre m ρ c ⊢ wp frame (wpE (defs₀ (F := F)) 𝒱₀ (c : Thread nD τ) none) Set.univ (core (F := F) c) (fun _ => bodyPost m ρ c) := by
  refine (pre_body m ρ c).trans ?_
  refine exists_elim fun K => exists_elim fun KS => (ctx_twice (ins m) c K KS).trans ?_
  have h := tri_core (I := ins m) (K := K) (KS := KS) (c := c)
  unfold Tri at h
  refine (sep_mono_left h).trans ((wp_frame_r frame _ Set.univ).trans (BI.Entails.trans (wp_mono frame _ Set.univ fun _ =>
    BI.sep_comm.trans (post_body m ρ c K KS)) (wp_fupd frame _ Set.univ _ _)))

set_option maxRecDepth 4000 in
/-- What the body of a device does. -/
theorem body_obligation (c : Dev nD) : BodyObligation (dats (F := F) m ρ 0 c) (defs₀ (F := F)) 𝒱₀ 0 Set.univ := fun t => by
  rw [fin_N t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) outM (Memref.isWhole_whole _) (Memref.whole
      cc0_scratch0) (Memref.isWhole_whole _) (Memref.whole cc0_scratch1) (Memref.isWhole_whole _) (Memref.whole
      cc0_scratch2) (Memref.isWhole_whole _) (Memref.whole cc0_scratch3) (Memref.isWhole_whole _) (Memref.whole
      cc0_scratch4) (Memref.isWhole_whole _) (Memref.whole cc0_scratch5) (Memref.isWhole_whole _) (Memref.whole
      cc0_scratch6) (Memref.isWhole_whole _) (Memref.whole cc0_scratch7) (Memref.isWhole_whole _) (Memref.whole
      cc0_scratch8) (Memref.isWhole_whole _) (Memref.whole cc0_scratch9) (Memref.isWhole_whole _) cc0_scratch10
      cc0_scratch11 cc0_scratch12 cc0_scratch13 cc0_scratch14 cc0_scratch15 cc0_scratch16 cc0_scratch17
      cc0_scratch18 cc0_scratch19 cc0_scratch20 cc0_scratch21 cc0_scratch22 cc0_scratch23 cc0_scratch24
      cc0_scratch25 cc0_scratch26 cc0_scratch27 cc0_scratch28 cc0_scratch29 cc0_scratch30 cc0_scratch31
      cc0_scratch32 cc0_scratch33 cc0_scratch34 cc0_scratch35) (fun _ => bodyPost m ρ c)
  rw [body_eq]
  simp only [Prog.lift, Prog.bind_op, Prog.bind_ret, wp_deviceId]
  exact core_run m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem rest_out (c : Dev nD) : (Pipeline.unscopedRestP Pipeline.Prefetch.none cfg0.spec c (fun b => m ((c : Thread nD τ).loc b)) : sProp 𝕄) ⊢ OutP (ins m) c 15 := by
  rw [Pipeline.unscopedRestP_none, unscopedRest0_eq]
  unfold OutP
  iintro H
  iexists (m ((c : Thread nD τ).loc main_v1))
  isplitr
  · ipureintro; intro ρ n h h'; omega
  iexact H

theorem enter (c : Dev nD) : iprop(Pipeline.unscopedRestP Pipeline.Prefetch.none cfg0.spec c (fun b => m ((c : Thread nD τ).loc b)) ∗ levAts L lv
      ∗ Pipeline.launchCred O₀ c ∗ prngReg c (ρ c) ∗ G' (ins m) c)
    ⊢ (|={Set.univ}=> iprop(Start (ins m) c ∗ emp) : sProp 𝕄) := by
  iintro ⟨Hr, Hl, Hc, -, HG⟩
  imodintro
  isplitl
  · iapply (start_intro (ins m) c)
    isplitl [Hr]
    · iapply (rest_out m c); iexact Hr
    isplitl [Hl]; · iexact Hl
    isplitl [Hc]; · iexact Hc
    iexact HG
  iempintro

theorem phi_first (c : Dev nD) :
    iprop(Start (ins m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (bufs_eq c).1; iexact Hr

theorem above_first (c : Dev nD) : Above 0 (O₀ c) := by
  unfold O₀
  refine above_add (above_add (above_sum fun j _ => ?_) (above_tally _ _ (by decide) (by decide))) (above_tally _ _ (by decide) (by decide))
  unfold OSp
  exact OS_above c j (by decide) (by decide)

set_option maxRecDepth 20000 in
theorem wait_stage (c : Dev nD) (sm : SemLoc sig) (hs : kindOf sm = none) (O : CellTallies nD τ sig ℕ) (hO : Above 0 O) :
    (levAts L lv : sProp 𝕄) ⊢ MayWait (c : Thread nD τ) sm 0 O :=
  mayWait_of_above c sm 0 (by decide) (by unfold lv; rw [show ((c : Thread nD τ), sm).2 = sm from rfl, hs]; exact hO)

theorem waits (c : Dev nD) : (levAts L lv : sProp 𝕄) ⊢ Pipeline.cellsWaits cfgs (dats m ρ) 0 0 c :=
  Pipeline.cellsWaits_intro cfgs (dats m ρ) 0 0 c fun w s t =>
    wait_stage c _ (by fin_cases w <;> fin_cases s <;> decide +kernel) _ (by
      rcases t with ⟨_ | _, ht⟩
      · exact above_first c
      · exact above_zero 0)

/-! ## The run -/

/-- What the run leaves on a device: all 32 pieces of the result. -/
def Whole (c : Dev nD) (f : OutC F) : Prop := ∀ ρ n, 15 ≤ n → n < 31 → Good (ins m) c ρ n f

def QY (c : Dev nD) (s : MemSt nD τ sig (Elt F)) : Prop :=
  (∀ sm : SemLoc sig, sm.isScoped .tc = false → s.sem ((c.tc : Thread nD τ), sm) = 0) ∧ Whole m c (s.mem ((c : Thread nD τ).loc main_v1))

theorem read_end (c : Dev nD) (s' : Phys nD τ sig (Elt F)) :
    iprop((semVal (cell c barK) 0 ∗ OutP (ins m) c 31) ∗ emp ∗ SI s') ⊢ (|={Set.univ}=> iprop(⌜QY m c s'.mem⌝ ∗ SI s') : sProp 𝕄) := by
  unfold OutP
  iintro ⟨⟨Hb, ⟨%f, %hf, Hf⟩⟩, -, HSI⟩
  icombine HSI Hf gives %h
  imod (Pipeline.unscopedSems0_read (X := unscopedSems0 c) (c := c) fupd_intro s') $$ [Hb HSI] with ⟨%hs, HSI⟩
  · isplitl [Hb]
    · rw [unscoped_eq]; iexact Hb
    iexact HSI
  imodintro
  isplitr
  · ipureintro
    refine ⟨hs, ?_⟩
    have he := Buf.eq_of_forall_mem_univ h
    unfold Whole
    intro ρ n h1 h2
    have := hf ρ n h1 h2
    rw [← he] at this
    exact this
  iexact HSI

/-- The whole run: every device ends with the whole result, its inputs as they were. -/
def QC : PUnit × MemSt nD τ sig (Elt F) → Prop := fun r => ∀ c : Dev nD,
  Whole m c (r.2.mem ((c : Thread nD τ).loc main_v1))
    ∧ r.2.mem ((c : Thread nD τ).loc main_arg0) = m ((c : Thread nD τ).loc main_arg0)
    ∧ r.2.mem ((c : Thread nD τ).loc main_arg1) = m ((c : Thread nD τ).loc main_arg1)

theorem arr_x (c : Dev nD) : (dats m ρ 0 c).arrAt (0 : Fin 2) cfg0.N = m ((c : Thread nD τ).loc main_arg0) := (dats m ρ 0 c).arrAt_in (0 : Fin 2) rfl _
theorem arr_w (c : Dev nD) : (dats m ρ 0 c).arrAt (1 : Fin 2) cfg0.N = m ((c : Thread nD τ).loc main_arg1) := (dats m ρ 0 c).arrAt_in (1 : Fin 2) rfl _

set_option maxRecDepth 8000 in
/-- On the sixteen devices, for any floats, from any memory with the counters at zero: every run ends, with the whole
    result on every device, the inputs unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀) (hu₀ := fund (ins m)) (hglob := glob (ins m))
    (hA := fun _ _ => rfl) (hpf := fun _ k => k.elim0)
    (X := Start (ins m)) (Y := fun c => iprop(semVal (cell c barK) 0 ∗ OutP (ins m) c 31)) (Z := fun _ => iprop(emp))
    (hX := enter m ρ) (hin := phi_first m ρ) (hout := fun c => BI.Entails.refl _)
    (QY := QY m) (hY := read_end m)
    (hQ := fun _ h hs => ⟨fun c => ⟨(h c).2.2.2, ((h c).1 (0 : Fin 2)).trans (arr_x m ρ c), ((h c).1 (1 : Fin 2)).trans (arr_w m ρ c)⟩,
      sem_eq_zero hs fun c => (h c).2.2.1⟩)

end Cert.KernelIdeal.Ring

end
-- ==== Proof.Value.lean ====
/- What the run leaves, over the extended reals: the activation of the whole product. -/
module

public import proofs.«01_k».proof.Proof.Run
public import Idealize.ShloMosaic.Lib.MatmulPlain
public import Idealize.ShloMosaic.Lib.Layout
public import Idealize.ShloMosaic.Lib.ValueIdx

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable (I : Ins Ideal)

/-! ## One device's product -/

/-- An entry of device `d`'s block of `x`. -/
def xEnt (d : Dev nD) (r : Fin 8192) (k : Fin 512) : EReal := I.x d (ix2 r k)
/-- An entry of device `d`'s block of `w`. -/
def wEnt (d : Dev nD) (k : Fin 512) (q : Fin 4096) : EReal := I.w d (ix2 k q)

/-- Device `d`'s share of an entry of the product: the sum over its 512 columns of `x` and rows of `w`. -/
def share (d : Dev nD) (r : Fin 8192) (q : Fin 4096) : EReal := ∑ k : Fin 512, xEnt I d r k * wEnt I d k q

/-- A row of chunk `a`. -/
def rowAt {a : ℕ} (h : a < 16) (i : Fin 512) : Fin 8192 := ⟨512 * a + i.val, by omega⟩
/-- A column of half `ρ`. -/
def colAt (ρ : Fin 2) (i : Fin 2048) : Fin 4096 := ⟨2048 * ρ.val + i.val, by omega⟩
/-- A row of part `κ` of a chunk. -/
def rowIn (κ : Fin 4) (i : Fin 128) : Fin 512 := ⟨128 * κ.val + i.val, by omega⟩

theorem dot_plain : dot_S512x512_S512x2048_S512x2048_1_0_0_1_n_n = DotDims.plain 512 512 2048 := rfl

theorem prodAt_apply (ρ : Fin 2) (c : Dev nD) (n : ℕ) (r : Fin 512) (q : Fin 2048) :
    prodAt I ρ c n (ix2 r q) = share I c (rowAt (chk_lt ρ c n) r) (colAt ρ q) := by
  unfold prodAt part
  rw [truncf_apply, shapeCast_self, shapeCast_self, dot_plain]
  refine (Ideal.matmul_plain_apply _ _ _ _ _ _).trans ?_
  rw [show (constant S512x2048 .f32 0x00000000#32 : FVec Ideal S512x2048 .f32) (ix2 r q) = 0 from Ideal.ofBits_zero_f32, zero_add]
  unfold share
  refine Finset.sum_congr rfl fun k _ => congrArg₂ (· * ·) ?_ ?_
  · refine congrArg (I.x c) (funext fun a => Fin.ext ?_)
    match a with
    | 0 => show 512 * chk ρ c n + 1 * r.val = 512 * chk ρ c n + r.val; omega
    | 1 => show 0 + 1 * k.val = k.val; omega
  · refine congrArg (I.w c) (funext fun a => Fin.ext ?_)
    match a with
    | 0 => show 0 + 1 * k.val = k.val; omega
    | 1 => show 2048 * ρ.val + 1 * q.val = 2048 * ρ.val + q.val; omega

theorem rows_apply (κ : Fin 4) (p : FVec Ideal S512x2048 .bf16) (r : Fin 128) (q : Fin 2048) : rows κ p (ix2 r q) = p (ix2 (rowIn κ r) q) := by
  unfold rows
  exact extractStridedSlice_apply _ _ _ _ _ fun a => match a with
    | 0 => rfl
    | 1 => (Nat.zero_add _).symm

/-! ## The sum round the ring -/

/-- The device whose chunk comes `k` hops later to `c`. -/
def back (ρ : Fin 2) (k : ℕ) (c : Dev nD) : Dev nD := (fromD ρ)^[k] c

theorem chk_back (ρ : Fin 2) (k n : ℕ) (h : k + n ≤ 31) (c : Dev nD) : chk ρ (back ρ k c) n = chk ρ c (k + n) := by
  induction k generalizing c with
  | zero => rw [Nat.zero_add]; rfl
  | succ k ih =>
    show chk ρ (back ρ k (fromD ρ c)) n = _
    rw [ih (by omega), show k + 1 + n = k + n + 1 by omega, chk_from ρ c (k + n) (by omega)]

theorem cont_sum (ρ : Fin 2) (κ : Fin 4) (n : ℕ) (hn : n ≤ 15) (c : Dev nD) (r : Fin 128) (q : Fin 2048) :
    cont I (ρ, κ) n c (ix2 r q) = ∑ k ∈ Finset.range (n + 1), share I (back ρ k c) (rowAt (chk_lt ρ c n) (rowIn κ r)) (colAt ρ q) := by
  induction n generalizing c with
  | zero =>
    rw [Finset.sum_range_one]
    exact (rows_apply κ _ r q).trans (prodAt_apply I ρ c 0 _ q)
  | succ n ih =>
    rw [cont_add I (ρ, κ) (by omega), addf_apply, ih (by omega), rows_apply, prodAt_apply, Finset.sum_range_succ' _ (n + 1)]
    refine congrArg₂ (· + ·) (Finset.sum_congr rfl fun k _ => ?_) rfl
    refine congrArg₂ (fun d r => share I d r (colAt ρ q)) rfl (Fin.ext ?_)
    show 512 * chk ρ (fromD ρ c) n + _ = 512 * chk ρ c (n + 1) + _
    rw [chk_from ρ c n (by omega)]

/-- Sixteen steps back meet every device once. -/
theorem sum_back {M : Type} [AddCommMonoid M] (ρ : Fin 2) (c : Dev nD) (f : Dev nD → M) : ∑ k ∈ Finset.range 16, f (back ρ k c) = ∑ d, f d := by
  have h : ∀ (ρ : Fin 2) (c : Dev nD), Function.Bijective fun k : Fin 16 => back ρ k.val c := by decide +kernel
  rw [Finset.sum_range]
  exact (h ρ c).sum_comp f

theorem cont_far (j : Ch) (k : ℕ) (c : Dev nD) : cont I j (15 + k) c = cont I j 15 (back j.1 k c) := by
  induction k generalizing c with
  | zero => rfl
  | succ k ih =>
    rw [show 15 + (k + 1) = 15 + k + 1 from rfl, cont_pass I j (by omega), ih]
    rfl

/-- A finished chunk is the sum over all devices. -/
theorem cont_full (ρ : Fin 2) (κ : Fin 4) (n : ℕ) (h : 15 ≤ n) (hn : n < 31) (c : Dev nD) (r : Fin 128) (q : Fin 2048) :
    cont I (ρ, κ) n c (ix2 r q) = ∑ d, share I d (rowAt (chk_lt ρ c n) (rowIn κ r)) (colAt ρ q) := by
  obtain ⟨k, rfl⟩ := Nat.exists_eq_add_of_le h
  rw [cont_far, cont_sum I ρ κ 15 le_rfl]
  refine (sum_back ρ _ fun d => share I d _ (colAt ρ q)).trans (Finset.sum_congr rfl fun d _ => ?_)
  refine congrArg (fun r => share I d r (colAt ρ q)) (Fin.ext ?_)
  show 512 * chk ρ (back ρ k c) 15 + _ = 512 * chk ρ c (15 + k) + _
  rw [chk_back ρ k 15 (by omega), Nat.add_comm k 15]

/-! ## The activation -/

/-- The activation of one entry. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

theorem act_apply (u : FVec Ideal S128x2048 .bf16) (i : S128x2048.Idx) : act u i = gelu (u i) := by
  unfold act
  rw [shapeCast_self]
  show Ideal.ofBits .f32 0x3F000000#32 * u i * (Ideal.ofBits .f32 0x3F800000#32
    + Ideal.tanh (Ideal.ofBits .f32 0x3F4C422A#32 * (u i + Ideal.ofBits .f32 0x3D372713#32 * u i * u i * u i))) = _
  unfold gelu
  rw [mul_assoc (Ideal.ofBits .f32 0x3D372713#32 * u i), mul_assoc (Ideal.ofBits .f32 0x3D372713#32), ← mul_assoc (u i)]

/-! ## The whole result -/

/-- Every chunk comes by between hops 15 and 31. -/
theorem chk_onto (ρ : Fin 2) (c : Dev nD) (a : Fin 16) : ∃ n : Fin 16, chk ρ c (15 + n.val) = a.val := by
  have h : ∀ (ρ : Fin 2) (c : Dev nD) (a : Fin 16), ∃ n : Fin 16, chk ρ c (15 + n.val) = a.val := by decide +kernel
  exact h ρ c a

theorem good_apply (c : Dev nD) (f : OutC Ideal) (ρ : Fin 2) (n : ℕ) (h : 15 ≤ n) (hn : n < 31) (hf : Good I c ρ n f) (κ : Fin 4) (r : Fin 128)
    (q : Fin 2048) : f (ix2 (rowAt (chk_lt ρ c n) (rowIn κ r)) (colAt ρ q)) = gelu (∑ d, share I d (rowAt (chk_lt ρ c n) (rowIn κ r)) (colAt ρ q)) := by
  rw [← cont_full I ρ κ n h hn c r q, ← act_apply, ← hf κ]
  refine congrArg f (funext fun a => Fin.ext ?_)
  match a with
  | 0 => show 512 * chk ρ c n + (128 * κ.val + r.val) = 512 * chk ρ c n + 1 * (128 * κ.val + 1 * r.val); omega
  | 1 => show 2048 * ρ.val + q.val = 2048 * ρ.val + 1 * (0 + 1 * q.val); omega

/-- An entry of the result is the activation of the sum of all devices' shares. -/
theorem whole_apply (c : Dev nD) (f : OutC Ideal) (hf : ∀ ρ n, 15 ≤ n → n < 31 → Good I c ρ n f) (r : Fin 8192) (q : Fin 4096) :
    f (ix2 r q) = gelu (∑ d, share I d r q) := by
  obtain ⟨n, hn⟩ := chk_onto ⟨q.val / 2048, by omega⟩ c ⟨r.val / 512, by omega⟩
  have h := good_apply I c f ⟨q.val / 2048, by omega⟩ (15 + n.val) (by omega) (by omega) (hf _ _ (by omega) (by omega))
    ⟨r.val % 512 / 128, by omega⟩ ⟨r.val % 128, by omega⟩ ⟨q.val % 2048, by omega⟩
  have hr : rowAt (chk_lt ⟨q.val / 2048, by omega⟩ c (15 + n.val)) (rowIn ⟨r.val % 512 / 128, by omega⟩ ⟨r.val % 128, by omega⟩) = r := Fin.ext (by
    show 512 * chk _ c (15 + n.val) + (128 * (r.val % 512 / 128) + r.val % 128) = r.val
    rw [hn]
    show 512 * (r.val / 512) + (128 * (r.val % 512 / 128) + r.val % 128) = r.val
    omega)
  have hq : colAt ⟨q.val / 2048, by omega⟩ ⟨q.val % 2048, by omega⟩ = q := Fin.ext (by
    show 2048 * (q.val / 2048) + q.val % 2048 = q.val
    omega)
  rw [hr, hq] at h
  exact h

/-! ## The whole product -/

/-- An entry of the product of the whole arrays. -/
def dot (X : (⟨2, ![8192, 8192]⟩ : Shape).Idx → EReal) (W : (⟨2, ![8192, 4096]⟩ : Shape).Idx → EReal) (r : Fin 8192) (q : Fin 4096) : EReal :=
  ∑ k : Fin 8192, X (ix2 r k) * W (ix2 k q)

/-- The shares of the devices, each holding its block of columns of `x` and rows of `w`, add up to the product. -/
theorem shares_dot (X : (⟨2, ![8192, 8192]⟩ : Shape).Idx → EReal) (W : (⟨2, ![8192, 4096]⟩ : Shape).Idx → EReal)
    (hx : ∀ d, I.x d = Layout.block ⟨2, ![8192, 512]⟩ ⟨2, ![8192, 8192]⟩ 1 16 d X)
    (hw : ∀ d, I.w d = Layout.block ⟨2, ![512, 4096]⟩ ⟨2, ![8192, 4096]⟩ 0 16 d W) (r : Fin 8192) (q : Fin 4096) :
    ∑ d, share I d r q = dot X W r q := by
  unfold dot
  rw [← Equiv.sum_comp (finProdFinEquiv (m := 16) (n := 512)), Fintype.sum_prod_type]
  refine Finset.sum_congr rfl fun d _ => Finset.sum_congr rfl fun k _ => ?_
  unfold xEnt wEnt
  rw [hx, hw]
  refine congrArg₂ (· * ·) (congrArg X (funext fun a => Fin.ext ?_)) (congrArg W (funext fun a => Fin.ext ?_))
  · match a with
    | 0 => rfl
    | 1 => show d.val * 512 + k.val = k.val + 512 * d.val; omega
  · match a with
    | 0 => show d.val * 512 + k.val = k.val + 512 * d.val; omega
    | 1 => rfl

end Cert.KernelIdeal.Ring

end
-- ==== Proof.lean ====
/- The claims of the certificate, together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.StackMember

@[expose] public section

noncomputable section

namespace Cert.Proof

open Idealize.ShloMosaic Idealize.ShloMosaic.ValueIdx Idealize.SL.Sem
open Cert.KernelIdeal.Ring (gelu dot whole_apply shares_dot)

/-- The ideal kernel runs, and leaves its inputs and the counters as it found them. -/
theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The kernel and its ideal form have the same text, so the same body on every device. -/
theorem defs₀_same : @Cert.Kernel.defs₀ Bits _ _ = @Cert.KernelIdeal.defs₀ Bits _ _ := by
  unfold Cert.Kernel.defs₀ Cert.KernelIdeal.defs₀
  refine congrArg Defs.onTc (funext fun l => funext fun a => ?_)
  match l with
  | 0 => cases a with | mk t s => exact rfl

theorem defs_same : @Cert.Kernel.defs Bits _ _ = @Cert.KernelIdeal.defs Bits _ _ := congrArg (Pipeline.defs _) defs₀_same

/-- The kernel on words runs likewise. -/
theorem frame_kernel : Cert.quiescent_Kernel := fun m ρ _ => by
  rw [defs_same]
  exact (θ_run Cert.KernelIdeal.defs _ _).mono (fun _ h => ⟨fun c => (h.1 c).2, h.2⟩) (Cert.KernelIdeal.Ring.run_main (F := Bits) m ρ)

/-- The reference runs, and leaves its inputs as it found them; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values agree -/

/-- The result of the whole inputs: the activation of their product. -/
def result (X : (⟨2, ![8192, 8192]⟩ : Shape).Idx → EReal) (W : (⟨2, ![8192, 4096]⟩ : Shape).Idx → EReal) :
    (⟨2, ![8192, 4096]⟩ : Shape).Idx → EReal := fun i => gelu (dot X W (i 0) (i 1))

/-- The host's activation of an array is the activation of each of its entries. -/
theorem host_gelu (D : FVec Ideal Cert.ReferenceIdeal.S8192x4096 .f32) (h : (Cert.ReferenceIdeal.S_).BroadcastsInDim Cert.ReferenceIdeal.S8192x4096 ![])
    (i : Cert.ReferenceIdeal.S8192x4096.Idx) :
    mulf (mulf (broadcastInDim Cert.ReferenceIdeal.S8192x4096 ![] h (constant (F := Ideal) Cert.ReferenceIdeal.S_ .f32 0x3F000000#32)) D)
      (addf (broadcastInDim Cert.ReferenceIdeal.S8192x4096 ![] h (constant (F := Ideal) Cert.ReferenceIdeal.S_ .f32 0x3F800000#32))
        (Host.tanh (mulf (broadcastInDim Cert.ReferenceIdeal.S8192x4096 ![] h (constant (F := Ideal) Cert.ReferenceIdeal.S_ .f32 0x3F4C422A#32))
          (addf D (mulf (broadcastInDim Cert.ReferenceIdeal.S8192x4096 ![] h (constant (F := Ideal) Cert.ReferenceIdeal.S_ .f32 0x3D372713#32))
            (mulf (mulf D D) D)))))) i = gelu (D i) := rfl

/-- The host's product, read at an entry. -/
theorem host_dot (X : FVec Ideal Cert.ReferenceIdeal.S8192x8192 .bf16) (W : FVec Ideal Cert.ReferenceIdeal.S8192x4096 .bf16)
    (hX hW : FTy.bf16.bits < FTy.f32.bits) (i : Cert.ReferenceIdeal.S8192x4096.Idx) :
    Host.dotGeneral Cert.ReferenceIdeal.dot_S8192x8192_S8192x4096_S8192x4096_1_0_0_1_n_n none (extf .f32 X hX) (extf .f32 W hW) i = dot X W (i 0) (i 1) :=
  (congrArg _ (eq_ix2 i)).trans (StackMember.dotGeneral_plain_apply none _ _ (i 0) (i 1))

/-- The reference's result. -/
theorem reference_value (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD) :
    θ_run Cert.ReferenceIdeal.defs (onTc (τ := Cert.ReferenceIdeal.τ) (Cert.ReferenceIdeal.main (F := Ideal))) ⟨m, fun _ => 0, ρ⟩ fun r =>
      r.2.mem ((c.tc : Thread Cert.ReferenceIdeal.nD Cert.ReferenceIdeal.τ).loc Cert.ReferenceIdeal.main_v15)
          = result (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono
    (fun _ h => ⟨(h c).1.trans (funext fun i => (host_gelu _ _ i).trans (congrArg gelu (host_dot _ _ _ _ i))), (h c).2⟩)
    (Cert.ReferenceIdeal.Value.run (F := Ideal) m ρ)

/-- Kernel and reference leave the same result. -/
theorem algebraic : Cert.algebraic_KernelIdeal_ReferenceIdeal := fun m g m' g' _ hin =>
  ⟨result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨funext fun i => (congrArg _ (eq_ix2 i)).trans
          ((whole_apply (Cert.KernelIdeal.Ring.ins m) c _ (h.1 c).1 (i 0) (i 1)).trans
            (congrArg gelu (shares_dot (Cert.KernelIdeal.Ring.ins m) _ _
              (fun d => (Cert.KernelIdeal.Ring.xstg_eq m d).trans (hin d).1)
              (fun d => (Cert.KernelIdeal.Ring.wstg_eq m d).trans (hin d).2) (i 0) (i 1)))), (h.1 c).2⟩)
      (Cert.KernelIdeal.Ring.run_main (F := Ideal) m g),
    reference_value m' g' 0⟩

theorem claim : Cert.Claim := ⟨Cert.Kernel.Gen.facts, Cert.KernelIdeal.Gen.facts, Cert.ReferenceIdeal.Gen.facts, frame_kernel, frame_ideal,
  frame_reference, trivial, algebraic⟩

end Cert.Proof

end
